-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases_and_clear_choice [hPre_zero_biases_and_clear_choice : Cert.Pre_zero_biases_and_clear_choice.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases_and_clear_choice.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_zero_biases_and_clear_choice.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_zero_biases_and_clear_choice.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_zero_biases_and_clear_choice.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases_and_clear_choice [hPre_zero_biases_and_clear_choice : Cert.Pre_zero_biases_and_clear_choice.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases_and_clear_choice.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_zero_biases_and_clear_choice.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_zero_biases_and_clear_choice.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_zero_biases_and_clear_choice.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_zero_biases_and_clear_choice [hKernelIdeal : Cert.KernelIdeal.Facts] [hPre_zero_biases_and_clear_choice : Cert.Pre_zero_biases_and_clear_choice.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases_and_clear_choice m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_zero_biases_and_clear_choice [hReferenceIdeal : Cert.ReferenceIdeal.Facts] [hPre_zero_biases_and_clear_choice : Cert.Pre_zero_biases_and_clear_choice.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases_and_clear_choice m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_zero_biases_and_clear_choice [hKernelIdeal : Cert.KernelIdeal.Facts] [hReferenceIdeal : Cert.ReferenceIdeal.Facts] [hPre_zero_biases_and_clear_choice : Cert.Pre_zero_biases_and_clear_choice.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases_and_clear_choice m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_zero_biases_and_clear_choice : Cert.Pre_zero_biases_and_clear_choice.Facts),
    quiescent_Kernel (hKernel := hKernel)
    ∧ quiescent_KernelIdeal (hKernelIdeal := hKernelIdeal)
    ∧ quiescent_KernelIdeal_pre_zero_biases_and_clear_choice (hKernelIdeal := hKernelIdeal) (hPre_zero_biases_and_clear_choice := hPre_zero_biases_and_clear_choice)
    ∧ quiescent_ReferenceIdeal (hReferenceIdeal := hReferenceIdeal)
    ∧ quiescent_ReferenceIdeal_pre_zero_biases_and_clear_choice (hReferenceIdeal := hReferenceIdeal) (hPre_zero_biases_and_clear_choice := hPre_zero_biases_and_clear_choice)
    ∧ preserves_Kernel_KernelIdeal
    ∧ algebraic_KernelIdeal_ReferenceIdeal_pre_zero_biases_and_clear_choice (hKernelIdeal := hKernelIdeal) (hReferenceIdeal := hReferenceIdeal) (hPre_zero_biases_and_clear_choice := hPre_zero_biases_and_clear_choice)
-- ==== Pre_zero_biases_and_clear_choice.lean ====
abbrev S32768x2048 : Shape := ⟨2, ![32768, 2048]⟩
abbrev S2048x32 : Shape := ⟨2, ![2048, 32]⟩
abbrev S32 : Shape := ⟨1, ![32]⟩
abbrev S32x2048 : Shape := ⟨2, ![32, 2048]⟩
abbrev S2048 : Shape := ⟨1, ![2048]⟩
abbrev S32768x32 : Shape := ⟨2, ![32768, 32]⟩
abbrev S32768x1x32 : Shape := ⟨3, ![32768, 1, 32]⟩
abbrev S32768x32x1 : Shape := ⟨3, ![32768, 32, 1]⟩
abbrev S32768x32x32 : Shape := ⟨3, ![32768, 32, 32]⟩
abbrev S_ : Shape := ⟨0, ![]⟩
abbrev S32768 : Shape := ⟨1, ![32768]⟩
abbrev S32768x1 : Shape := ⟨2, ![32768, 1]⟩

class Facts : Prop where
  bcast_S32768x32_S32768x1x32_0_2 : S32768x32.BroadcastsInDim S32768x1x32 (![0, 2] : Fin 2 → Fin S32768x1x32.rank)
  bcast_S32768x32_S32768x32x1_0_1 : S32768x32.BroadcastsInDim S32768x32x1 (![0, 1] : Fin 2 → Fin S32768x32x1.rank)
  bcast_S32768x1x32_S32768x32x32_0_1_2 : S32768x1x32.BroadcastsInDim S32768x32x32 (![0, 1, 2] : Fin 3 → Fin S32768x32x32.rank)
  bcast_S32768x32x1_S32768x32x32_0_1_2 : S32768x32x1.BroadcastsInDim S32768x32x32 (![0, 1, 2] : Fin 3 → Fin S32768x32x32.rank)
  natLt_1_32 : 1 < 32
  reducesTo_S32768x32x32_S32768x32_d2 : S32768x32x32.ReducesTo [2] S32768x32
  h_S_ : 0 < S_.numel
  bcast_S_S32768x32 : S_.BroadcastsInDim S32768x32 (![] : Fin 0 → Fin S32768x32.rank)
  reducesTo_S32768x32_S32768_d1 : S32768x32.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x32_0_1 : S32768x1.BroadcastsInDim S32768x32 (![0, 1] : Fin 2 → Fin S32768x32.rank)
  bcast_S_S32 : S_.BroadcastsInDim S32 (![] : Fin 0 → Fin S32.rank)
  bcast_S_S2048 : S_.BroadcastsInDim S2048 (![] : Fin 0 → Fin S2048.rank)
  dot_S32768x2048_S2048x32_S32768x32_1_0_0_1_n_n_wf : DotDims.WF S32768x2048 S2048x32 S32768x32 [1] [0] [0] [1] [] []

variable [Facts]

def dot_S32768x2048_S2048x32_S32768x32_1_0_0_1_n_n : DotDims S32768x2048 S2048x32 S32768x32 where
  lhsContracting := [1]
  rhsContracting := [0]
  lhsNonContracting := [0]
  rhsNonContracting := [1]
  lhsBatch := []
  rhsBatch := []
  wf := dot_S32768x2048_S2048x32_S32768x32_1_0_0_1_n_n_wf
def fn_part2 {F : FTy → Type} [FloatOps F] (main_arg5 : FVec F S2048 .f32) (main_v31 : IVec S32768x32 1) (main_v33 : IVec S32 1) (main_v35 : IVec S2048 1) (main_v36 : FVec F S2048 .f32) : IVec S32 1 × IVec S2048 1 × IVec S2048 1 × IVec S32768x32 1 :=
  let main_v37 : IVec S2048 1 := cmpf .oeq main_arg5 main_v36
  (main_v33, main_v35, main_v37, main_v31)

def fn_part1 {F : FTy → Type} [FloatOps F] (main_arg2 : FVec F S32 .f32) (main_arg4 : FVec F S2048 .f32) (main_arg5 : FVec F S2048 .f32) (main_v0 : FVec F S32768x32 .f32) (main_v7 : IVec S32768x32 32) (main_v14 : IVec S32768x32 32) (main_v19 : IVec S32768x1 32) : IVec S32 1 × IVec S2048 1 × IVec S2048 1 × IVec S32768x32 1 :=
  let main_c_2 : IVec S_ 32 := constantI S_ 32 4#32
  let main_v20 : IVec S32768x1 32 := broadcastInDim S32768x1 ![] bcast_S_S32768x1 main_c_2
  let main_v21 : IVec S32768x1 1 := cmpi .sle main_v19 main_v20
  let main_cst_3 : FVec F S_ .f32 := constant S_ .f32 0x00000000#32
  let main_v22 : FVec F S32768x32 .f32 := broadcastInDim S32768x32 ![] bcast_S_S32768x32 main_cst_3
  let main_v23 : IVec S32768x32 1 := cmpf .ole main_v0 main_v22
  let main_c_4 : IVec S_ 32 := constantI S_ 32 4#32
  let main_v24 : IVec S32768x32 32 := broadcastInDim S32768x32 ![] bcast_S_S32768x32 main_c_4
  let main_v25 : IVec S32768x32 1 := cmpi .sge main_v7 main_v24
  let main_v26 : IVec S32768x32 1 := ori main_v23 main_v25
  let main_c_5 : IVec S_ 32 := constantI S_ 32 1#32
  let main_v27 : IVec S32768x32 32 := broadcastInDim S32768x32 ![] bcast_S_S32768x32 main_c_5
  let main_v28 : IVec S32768x32 1 := cmpi .eq main_v14 main_v27
  let main_v29 : IVec S32768x32 1 := ori main_v26 main_v28
  let main_v30 : IVec S32768x32 1 := broadcastInDim S32768x32 ![0, 1] bcast_S32768x1_S32768x32_0_1 main_v21
  let main_v31 : IVec S32768x32 1 := ori main_v29 main_v30
  let main_cst_6 : FVec F S_ .f32 := constant S_ .f32 0x00000000#32
  let main_v32 : FVec F S32 .f32 := broadcastInDim S32 ![] bcast_S_S32 main_cst_6
  let main_v33 : IVec S32 1 := cmpf .oeq main_arg2 main_v32
  let main_cst_7 : FVec F S_ .f32 := constant S_ .f32 0x00000000#32
  let main_v34 : FVec F S2048 .f32 := broadcastInDim S2048 ![] bcast_S_S2048 main_cst_7
  let main_v35 : IVec S2048 1 := cmpf .oeq main_arg4 main_v34
  let main_cst_8 : FVec F S_ .f32 := constant S_ .f32 0x00000000#32
  let main_v36 : FVec F S2048 .f32 := broadcastInDim S2048 ![] bcast_S_S2048 main_cst_8
  fn_part2 (F := F) main_arg5 main_v31 main_v33 main_v35 main_v36

def fn {F : FTy → Type} [FloatOps F] (main_arg0 : FVec F S32768x2048 .f32) (main_arg1 : FVec F S2048x32 .f32) (main_arg2 : FVec F S32 .f32) (main_arg3 : FVec F S32x2048 .f32) (main_arg4 : FVec F S2048 .f32) (main_arg5 : FVec F S2048 .f32) : IVec S32 1 × IVec S2048 1 × IVec S2048 1 × IVec S32768x32 1 :=
  let main_v0 : FVec F S32768x32 .f32 := (fun l r => Host.dotGeneral dot_S32768x2048_S2048x32_S32768x32_1_0_0_1_n_n none l r) main_arg0 main_arg1
  let main_v1 : FVec F S32768x1x32 .f32 := broadcastInDim S32768x1x32 ![0, 2] bcast_S32768x32_S32768x1x32_0_2 main_v0
  let main_v2 : FVec F S32768x32x1 .f32 := broadcastInDim S32768x32x1 ![0, 1] bcast_S32768x32_S32768x32x1_0_1 main_v0
  let main_v3 : FVec F S32768x32x32 .f32 := broadcastInDim S32768x32x32 ![0, 1, 2] bcast_S32768x1x32_S32768x32x32_0_1_2 main_v1
  let main_v4 : FVec F S32768x32x32 .f32 := broadcastInDim S32768x32x32 ![0, 1, 2] bcast_S32768x32x1_S32768x32x32_0_1_2 main_v2
  let main_v5 : IVec S32768x32x32 1 := cmpf .ogt main_v3 main_v4
  let main_v6 : IVec S32768x32x32 32 := (extui 32 · natLt_1_32) main_v5
  let main_c : IVec S_ 32 := constantI S_ 32 0#32
  let main_v7 : IVec S32768x32 32 := (fun x v => Host.reduce IntOp.addi x v reducesTo_S32768x32x32_S32768x32_d2 h_S_) main_v6 main_c
  let main_v8 : FVec F S32768x1x32 .f32 := broadcastInDim S32768x1x32 ![0, 2] bcast_S32768x32_S32768x1x32_0_2 main_v0
  let main_v9 : FVec F S32768x32x1 .f32 := broadcastInDim S32768x32x1 ![0, 1] bcast_S32768x32_S32768x32x1_0_1 main_v0
  let main_v10 : FVec F S32768x32x32 .f32 := broadcastInDim S32768x32x32 ![0, 1, 2] bcast_S32768x1x32_S32768x32x32_0_1_2 main_v8
  let main_v11 : FVec F S32768x32x32 .f32 := broadcastInDim S32768x32x32 ![0, 1, 2] bcast_S32768x32x1_S32768x32x32_0_1_2 main_v9
  let main_v12 : IVec S32768x32x32 1 := cmpf .oeq main_v10 main_v11
  let main_v13 : IVec S32768x32x32 32 := (extui 32 · natLt_1_32) main_v12
  let main_c_0 : IVec S_ 32 := constantI S_ 32 0#32
  let main_v14 : IVec S32768x32 32 := (fun x v => Host.reduce IntOp.addi x v reducesTo_S32768x32x32_S32768x32_d2 h_S_) main_v13 main_c_0
  let main_cst : FVec F S_ .f32 := constant S_ .f32 0x00000000#32
  let main_v15 : FVec F S32768x32 .f32 := broadcastInDim S32768x32 ![] bcast_S_S32768x32 main_cst
  let main_v16 : IVec S32768x32 1 := cmpf .ogt main_v0 main_v15
  let main_v17 : IVec S32768x32 32 := (extui 32 · natLt_1_32) main_v16
  let main_c_1 : IVec S_ 32 := constantI S_ 32 0#32
  let main_v18 : IVec S32768 32 := (fun x v => Host.reduce IntOp.addi x v reducesTo_S32768x32_S32768_d1 h_S_) main_v17 main_c_1
  let main_v19 : IVec S32768x1 32 := broadcastInDim S32768x1 ![0] bcast_S32768_S32768x1_0 main_v18
  fn_part1 (F := F) main_arg2 main_arg4 main_arg5 main_v0 main_v7 main_v14 main_v19
-- ==== Kernel.lean ====
abbrev S32768x2048 : Shape := ⟨2, ![32768, 2048]⟩
abbrev S2048x32 : Shape := ⟨2, ![2048, 32]⟩
abbrev S32 : Shape := ⟨1, ![32]⟩
abbrev S32x2048 : Shape := ⟨2, ![32, 2048]⟩
abbrev S2048 : Shape := ⟨1, ![2048]⟩
abbrev S32768x32 : Shape := ⟨2, ![32768, 32]⟩
abbrev S1024x2048 : Shape := ⟨2, ![1024, 2048]⟩
abbrev S1024x32 : Shape := ⟨2, ![1024, 32]⟩
abbrev S1024 : Shape := ⟨1, ![1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2048x32, .f32⟩
  | .hbm, ⟨2, _⟩ => ⟨S32, .f32⟩
  | .hbm, ⟨3, _⟩ => ⟨S32x2048, .f32⟩
  | .hbm, ⟨4, _⟩ => ⟨S2048, .f32⟩
  | .hbm, ⟨5, _⟩ => ⟨S2048, .f32⟩
  | .hbm, ⟨6, _⟩ => ⟨S32768x2048, .f32⟩
  | .hbm, ⟨7, _⟩ => ⟨S32768x32, .f32⟩
  | .hbm, ⟨8, _⟩ => ⟨S32768x32, .f32⟩
  | .local _ .vmem, ⟨0, _⟩ => ⟨S1024x2048, .f32⟩
  | .local _ .vmem, ⟨1, _⟩ => ⟨S1024x2048, .f32⟩
  | .local _ .vmem, ⟨2, _⟩ => ⟨S2048x32, .f32⟩
  | .local _ .vmem, ⟨3, _⟩ => ⟨S32x2048, .f32⟩
  | .local _ .vmem, ⟨4, _⟩ => ⟨S1024x2048, .f32⟩
  | .local _ .vmem, ⟨5, _⟩ => ⟨S1024x2048, .f32⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | .local _ .vmem, ⟨9, _⟩ => ⟨S1024x32, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x2048 : Shape := ⟨2, ![32768, 2048]⟩
abbrev S2048x32 : Shape := ⟨2, ![2048, 32]⟩
abbrev S32 : Shape := ⟨1, ![32]⟩
abbrev S32x2048 : Shape := ⟨2, ![32, 2048]⟩
abbrev S2048 : Shape := ⟨1, ![2048]⟩
abbrev S1x2048 : Shape := ⟨2, ![1, 2048]⟩
abbrev S32768x32 : Shape := ⟨2, ![32768, 32]⟩
abbrev S1x32 : Shape := ⟨2, ![1, 32]⟩
abbrev S32768x4 : Shape := ⟨2, ![32768, 4]⟩
abbrev S32768 : Shape := ⟨1, ![32768]⟩
abbrev S32768x1 : Shape := ⟨2, ![32768, 1]⟩
abbrev S_ : Shape := ⟨0, ![]⟩
abbrev S32768x4x1 : Shape := ⟨3, ![32768, 4, 1]⟩
abbrev S32768x4x2 : Shape := ⟨3, ![32768, 4, 2]⟩

abbrev nBuf : Space → Nat
  | .hbm => 45
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x32, .f32⟩
  | .hbm, ⟨2, _⟩ => ⟨S32, .f32⟩
  | .hbm, ⟨3, _⟩ => ⟨S32x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S32768x2048, .f32⟩
  | .hbm, ⟨8, _⟩ => ⟨S32768x2048, .f32⟩
  | .hbm, ⟨9, _⟩ => ⟨S32768x32, .f32⟩
  | .hbm, ⟨10, _⟩ => ⟨S1x32, .f32⟩
  | .hbm, ⟨11, _⟩ => ⟨S32768x32, .f32⟩
  | .hbm, ⟨12, _⟩ => ⟨S32768x32, .f32⟩
  | .hbm, ⟨13, _⟩ => ⟨S32768x4, .f32⟩
  | .hbm, ⟨14, _⟩ => ⟨S32768x4, .i32⟩
  | .hbm, ⟨15, _⟩ => ⟨S32768, .i32⟩
  | .hbm, ⟨16, _⟩ => ⟨S32768x1, .i32⟩
  | .hbm, ⟨17, _⟩ => ⟨S_, .f32⟩
  | .hbm, ⟨18, _⟩ => ⟨S32768x32, .f32⟩
  | .hbm, ⟨19, _⟩ => ⟨S_, .f32⟩
  | .hbm, ⟨20, _⟩ => ⟨S32768x4, .f32⟩
  | .hbm, ⟨21, _⟩ => ⟨S32768x4, .f32⟩
  | .hbm, ⟨22, _⟩ => ⟨S_, .i32⟩
  | .hbm, ⟨23, _⟩ => ⟨S32768x1, .i32⟩
  | .hbm, ⟨24, _⟩ => ⟨S32768x1, .i1⟩
  | .hbm, ⟨25, _⟩ => ⟨S_, .i32⟩
  | .hbm, ⟨26, _⟩ => ⟨S32768x1, .i32⟩
  | .hbm, ⟨27, _⟩ => ⟨S32768x1, .i32⟩
  | .hbm, ⟨28, _⟩ => ⟨S32768x1, .i32⟩
  | .hbm, ⟨29, _⟩ => ⟨S_, .i32⟩
  | .hbm, ⟨30, _⟩ => ⟨S32768x4, .i32⟩
  | .hbm, ⟨31, _⟩ => ⟨S32768x4, .i1⟩
  | .hbm, ⟨32, _⟩ => ⟨S_, .i32⟩
  | .hbm, ⟨33, _⟩ => ⟨S32768x4, .i32⟩
  | .hbm, ⟨34, _⟩ => ⟨S32768x4, .i32⟩
  | .hbm, ⟨35, _⟩ => ⟨S32768x4, .i32⟩
  | .hbm, ⟨36, _⟩ => ⟨S32768x4, .i32⟩
  | .hbm, ⟨37, _⟩ => ⟨S32768x4x1, .i32⟩
  | .hbm, ⟨38, _⟩ => ⟨S32768x4x1, .i32⟩
  | .hbm, ⟨39, _⟩ => ⟨S32768x4x2, .i32⟩
  | .hbm, ⟨40, _⟩ => ⟨S32768x32, .f32⟩
  | .hbm, ⟨41, _⟩ => ⟨S32768x2048, .f32⟩
  | .hbm, ⟨42, _⟩ => ⟨S1x2048, .f32⟩
  | .hbm, ⟨43, _⟩ => ⟨S32768x2048, .f32⟩
  | .hbm, ⟨44, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_values : Ref sig .tc := ⟨.hbm, 13, rfl⟩
abbrev main_indices : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_call0_cst : Ref sig .tc := ⟨.hbm, 19, rfl⟩
abbrev main_call0_v0 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Proof.TopRow.lean ====
/- One token's row of scores, as mathematics over the extended reals: how many scores exceed a given one, and two ways
   of keeping the `K` greatest. `kept` is the common meaning: a positive score that fewer than `K` scores exceed stays,
   everything else becomes zero. The rounds remove the row's maximum `K` times; the ranking lists the row from the
   greatest down and takes the first `K`. On a row whose choice is clear both leave `kept`. -/
module

public import Mathlib.Data.EReal.Basic
public import Mathlib.Data.Finset.Fold
public import Mathlib.Data.Fintype.Card
public import Mathlib.Order.Interval.Finset.Fin

@[expose] public section

noncomputable section

namespace Cert.TopRow

variable {n : ℕ} (z : Fin n → EReal)

/-- The number of scores that exceed score `j`. -/
def above (j : Fin n) : ℕ := (Finset.univ.filter fun i => z j < z i).card

/-- At most `K` scores are positive. -/
def Few (K : ℕ) : Prop := (Finset.univ.filter fun i => 0 < z i).card ≤ K

/-- A positive score that fewer than `K` scores exceed is held once. -/
def Single (K : ℕ) : Prop := ∀ j, 0 < z j → above z j < K → ∀ i, z i = z j → i = j

/-- The row's choice of `K` scores is clear: there are no more positive ones, or the greatest ones are held once each. -/
def Clear (K : ℕ) : Prop := Few z K ∨ Single z K

/-- Fewer than `K` scores exceed a positive one where at most `K` are positive. -/
theorem above_lt_of_few {K : ℕ} (hz : Few z K) (j : Fin n) (hj : 0 < z j) : above z j < K := by
  refine lt_of_lt_of_le (Finset.card_lt_card ?_) hz
  refine Finset.ssubset_iff_of_subset (fun i hi => ?_) |>.mpr ⟨j, ?_, ?_⟩
  · rw [Finset.mem_filter] at hi ⊢
    exact ⟨hi.1, hj.trans hi.2⟩
  · exact Finset.mem_filter.mpr ⟨Finset.mem_univ j, hj⟩
  · rw [Finset.mem_filter]
    exact fun h => lt_irrefl _ h.2

/-- What is left of score `j`: itself where it is positive and among the `K` greatest, else zero. -/
def kept (K : ℕ) (j : Fin n) : EReal := if 0 < z j ∧ above z j < K then z j else 0

/-! ## Removing the maximum, round after round -/

/-- The maximum of a row, started at the least extended real. -/
def top (y : Fin n → EReal) : EReal := Finset.univ.fold max ⊥ y

theorem le_top (y : Fin n → EReal) (i : Fin n) : y i ≤ top y :=
  (Finset.le_fold_max (y i)).mpr (Or.inr ⟨i, Finset.mem_univ i, le_rfl⟩)

/-- A maximum above the starting value is one of the scores. -/
theorem exists_eq_top (y : Fin n → EReal) (h : ⊥ < top y) : ∃ i, y i = top y := by
  rcases (Finset.le_fold_max (top y)).mp (le_refl (top y)) with hb | ⟨i, _, hi⟩
  · exact absurd (lt_of_lt_of_le h hb) (lt_irrefl _)
  · exact ⟨i, le_antisymm (le_top y i) hi⟩

/-- The row after `r` rounds: each round sets the scores that equal the maximum to the least extended real. -/
def masked : ℕ → Fin n → EReal
  | 0 => z
  | r + 1 => fun i => if masked r i = top (masked r) then ⊥ else masked r i

/-- The scores that the first `r` rounds removed. -/
def taken : ℕ → Fin n → Prop
  | 0 => fun _ => False
  | r + 1 => fun i => taken r i ∨ masked z r i = top (masked z r)

theorem masked_of_taken (r : ℕ) (i : Fin n) (h : taken z r i) : masked z r i = ⊥ := by
  induction r with
  | zero => exact h.elim
  | succ r ih =>
    by_cases e : masked z r i = top (masked z r)
    · exact if_pos e
    · exact (if_neg e).trans (ih (h.resolve_right e))

theorem masked_of_not_taken (r : ℕ) (i : Fin n) (h : ¬ taken z r i) : masked z r i = z i := by
  induction r with
  | zero => rfl
  | succ r ih =>
    exact (if_neg fun e => h (Or.inr e)).trans (ih fun t => h (Or.inl t))

theorem masked_le (r : ℕ) (i : Fin n) : masked z r i ≤ z i := by
  by_cases h : taken z r i
  · exact (masked_of_taken z r i h).trans_le bot_le
  · exact (masked_of_not_taken z r i h).le

/-- A score still in the row is at most the maximum of the row. -/
theorem le_top_of_not_taken (r : ℕ) (i : Fin n) (h : ¬ taken z r i) : z i ≤ top (masked z r) :=
  (masked_of_not_taken z r i h).ge.trans (le_top _ i)

/-- What exceeds a score that round `r` removes was removed before. -/
theorem taken_of_lt_of_eq_top (r : ℕ) (i k : Fin n) (hi : masked z r i = top (masked z r)) (hk : z i < z k) : taken z r k := by
  by_contra h
  exact absurd (((le_top_of_not_taken z r k h).trans hi.ge).trans (masked_le z r i)) (not_le.mpr hk)

/-- The removed scores are the greatest ones: what exceeds a removed score is removed. -/
theorem taken_of_lt (r : ℕ) (i k : Fin n) (hi : taken z r i) (hk : z i < z k) : taken z r k := by
  induction r with
  | zero => exact hi.elim
  | succ r ih =>
    rcases hi with hi | hi
    · exact Or.inl (ih hi)
    · exact Or.inl (taken_of_lt_of_eq_top z r i k hi hk)

open Classical in
/-- So at most as many scores exceed a score that round `r` removes as the earlier rounds removed. -/
theorem above_le_of_eq_top (r : ℕ) (i : Fin n) (hi : masked z r i = top (masked z r)) :
    above z i ≤ (Finset.univ.filter (taken z r)).card := by
  refine Finset.card_le_card fun k hk => ?_
  rw [Finset.mem_filter] at hk ⊢
  exact ⟨hk.1, taken_of_lt_of_eq_top z r i k hi hk.2⟩

open Classical in
/-- While a positive score remains, each of the first `K` rounds removes exactly one score of a row whose greatest ones are held once. -/
theorem card_taken {K : ℕ} (hz : Single z K) (j : Fin n) (hj : 0 < z j) (r : ℕ) (hr : r ≤ K) (h : ¬ taken z r j) :
    (Finset.univ.filter (taken z r)).card = r := by
  induction r with
  | zero =>
    rw [Finset.card_eq_zero, Finset.filter_eq_empty_iff]
    exact fun i _ hi => hi
  | succ r ih =>
    have hjr : ¬ taken z r j := fun t => h (Or.inl t)
    have hc := ih (by omega) hjr
    have hpos : 0 < top (masked z r) := lt_of_lt_of_le hj (le_top_of_not_taken z r j hjr)
    obtain ⟨i, hi⟩ := exists_eq_top (masked z r) (lt_of_le_of_lt bot_le hpos)
    have hit : ¬ taken z r i := fun t => by
      rw [masked_of_taken z r i t] at hi
      exact absurd (hi ▸ hpos) (not_lt.mpr bot_le)
    have hzi : z i = top (masked z r) := (masked_of_not_taken z r i hit).symm.trans hi
    have habove : above z i < K := lt_of_le_of_lt (above_le_of_eq_top z r i hi) (by omega)
    have hset : Finset.univ.filter (taken z (r + 1)) = insert i (Finset.univ.filter (taken z r)) := by
      ext k
      rw [Finset.mem_insert, Finset.mem_filter, Finset.mem_filter]
      constructor
      · rintro ⟨hu, hk | hk⟩
        · exact Or.inr ⟨hu, hk⟩
        · by_cases hkt : taken z r k
          · exact Or.inr ⟨hu, hkt⟩
          · refine Or.inl (hz i (hzi ▸ hpos) habove k ?_)
            rw [hzi, ← hk, masked_of_not_taken z r k hkt]
      · rintro (rfl | ⟨hu, hk⟩)
        · exact ⟨Finset.mem_univ _, Or.inr hi⟩
        · exact ⟨hu, Or.inl hk⟩
    rw [hset, Finset.card_insert_of_notMem (by rw [Finset.mem_filter]; exact fun t => hit t.2), hc]

/-- A positive score that the first `r` rounds remove is exceeded by fewer than `r` scores. -/
theorem above_lt_of_taken {K : ℕ} (hz : Single z K) (j : Fin n) (hj : 0 < z j) (r : ℕ) (hr : r ≤ K) (h : taken z r j) :
    above z j < r := by
  induction r with
  | zero => exact h.elim
  | succ r ih =>
    by_cases hjr : taken z r j
    · exact Nat.lt_succ_of_lt (ih (by omega) hjr)
    · classical
      have := above_le_of_eq_top z r j (h.resolve_left hjr)
      rw [card_taken z hz j hj r (by omega) hjr] at this
      omega

/-- So they remove a positive score of such a row exactly where fewer than `K` scores exceed it. -/
theorem taken_iff_of_single {K : ℕ} (hz : Single z K) (j : Fin n) (hj : 0 < z j) : taken z K j ↔ above z j < K := by
  refine ⟨above_lt_of_taken z hz j hj K le_rfl, fun ha => ?_⟩
  by_contra h
  classical
  refine absurd ha (not_lt.mpr ((card_taken z hz j hj K le_rfl h).symm.le.trans (Finset.card_le_card fun k hk => ?_)))
  rw [Finset.mem_filter] at hk ⊢
  refine ⟨hk.1, lt_of_le_of_ne (not_lt.mp fun hlt => h (taken_of_lt z K k j hk.2 hlt)) fun e => h ?_⟩
  exact hz j hj ha k e.symm ▸ hk.2

open Classical in
/-- While a positive score remains, each round removes at least one score. -/
theorem le_card_taken (j : Fin n) (hj : 0 < z j) (r : ℕ) (h : ¬ taken z r j) : r ≤ (Finset.univ.filter (taken z r)).card := by
  induction r with
  | zero => exact Nat.zero_le _
  | succ r ih =>
    have hjr : ¬ taken z r j := fun t => h (Or.inl t)
    have hpos : 0 < top (masked z r) := lt_of_lt_of_le hj (le_top_of_not_taken z r j hjr)
    obtain ⟨i, hi⟩ := exists_eq_top (masked z r) (lt_of_le_of_lt bot_le hpos)
    have hit : ¬ taken z r i := fun t => by
      rw [masked_of_taken z r i t] at hi
      exact absurd (hi ▸ hpos) (not_lt.mpr bot_le)
    refine Nat.succ_le_of_lt (lt_of_le_of_lt (ih hjr) (Finset.card_lt_card ?_))
    refine Finset.ssubset_iff_of_subset (fun k hk => ?_) |>.mpr ⟨i, ?_, ?_⟩
    · rw [Finset.mem_filter] at hk ⊢
      exact ⟨hk.1, Or.inl hk.2⟩
    · exact Finset.mem_filter.mpr ⟨Finset.mem_univ i, Or.inr hi⟩
    · rw [Finset.mem_filter]
      exact fun t => hit t.2

/-- The first `K` rounds remove every positive score where at most `K` are positive. -/
theorem taken_of_few {K : ℕ} (hz : Few z K) (j : Fin n) (hj : 0 < z j) : taken z K j := by
  by_contra h
  classical
  refine absurd (le_card_taken z j hj K h) (not_le.mpr (lt_of_lt_of_le (Finset.card_lt_card ?_) hz))
  refine Finset.ssubset_iff_of_subset (fun k hk => ?_) |>.mpr ⟨j, ?_, ?_⟩
  · rw [Finset.mem_filter] at hk ⊢
    exact ⟨hk.1, lt_of_lt_of_le hj (not_lt.mp fun hlt => h (taken_of_lt z K k j hk.2 hlt))⟩
  · exact Finset.mem_filter.mpr ⟨Finset.mem_univ j, hj⟩
  · rw [Finset.mem_filter]
    exact fun t => h t.2

/-- The first `K` rounds remove a positive score of a clear row exactly where fewer than `K` scores exceed it. -/
theorem taken_iff {K : ℕ} (hz : Clear z K) (j : Fin n) (hj : 0 < z j) : taken z K j ↔ above z j < K :=
  hz.elim (fun h => iff_of_true (taken_of_few z h j hj) (above_lt_of_few z h j hj)) fun h => taken_iff_of_single z h j hj

open Classical in
/-- The rounds' result: the positive part of the removed scores, zero elsewhere, is what is kept of the row. -/
theorem rounds_eq_kept {K : ℕ} (hz : Clear z K) (j : Fin n) : (if taken z K j then max (z j) 0 else 0) = kept z K j := by
  unfold kept
  by_cases hj : 0 < z j
  · rw [max_eq_left hj.le]
    exact if_congr ((taken_iff z hz j hj).trans ⟨fun h => ⟨hj, h⟩, fun h => h.2⟩) rfl rfl
  · rw [max_eq_right (not_lt.mp hj), ite_self, if_neg fun h => hj h.1]

/-! ## Listing the row from the greatest score down -/

/-- `σ` lists the row from the greatest score down: every position is listed, and no later score exceeds an earlier one. -/
structure Ranking (σ : Fin n → Fin n) : Prop where
  inj : Function.Injective σ
  surj : Function.Surjective σ
  down : ∀ i j, i < j → ¬ z (σ i) < z (σ j)

/-- Score `j` is among the first `K` listed exactly where, being positive, fewer than `K` scores exceed it, in a row whose
    greatest ones are held once. -/
theorem ranked_iff_of_single {K : ℕ} (hz : Single z K) {σ : Fin n → Fin n} (hσ : Ranking z σ) (j : Fin n) (hj : 0 < z j) :
    (∃ k : Fin n, k.val < K ∧ σ k = j) ↔ above z j < K := by
  constructor
  · rintro ⟨k, hk, rfl⟩
    refine lt_of_le_of_lt ?_ hk
    have hsub : (Finset.univ.filter fun i => z (σ k) < z i) ⊆ (Finset.univ.filter fun p : Fin n => p < k).image σ := by
      intro i hi
      rw [Finset.mem_filter] at hi
      obtain ⟨p, rfl⟩ := hσ.surj i
      refine Finset.mem_image.mpr ⟨p, Finset.mem_filter.mpr ⟨Finset.mem_univ _, ?_⟩, rfl⟩
      by_contra hp
      rcases lt_or_eq_of_le (not_lt.mp hp) with hlt | rfl
      · exact hσ.down k p hlt hi.2
      · exact lt_irrefl _ hi.2
    refine (Finset.card_le_card hsub).trans (Finset.card_image_le.trans ?_)
    rw [show (Finset.univ.filter fun p : Fin n => p < k) = Finset.Iio k by ext p; simp, Fin.card_Iio]
  · intro ha
    obtain ⟨k, rfl⟩ := hσ.surj j
    by_contra h
    have hk : K ≤ k.val := not_lt.mp fun hk => h ⟨k, hk, rfl⟩
    have hsub : (Finset.univ.filter fun p : Fin n => p < k).image σ ⊆ Finset.univ.filter fun i => z (σ k) < z i := by
      intro i hi
      obtain ⟨p, hp, rfl⟩ := Finset.mem_image.mp hi
      rw [Finset.mem_filter] at hp ⊢
      refine ⟨Finset.mem_univ _, lt_of_le_of_ne (not_lt.mp (hσ.down p k hp.2)) fun e => ?_⟩
      exact absurd (hσ.inj (hz (σ k) hj ha (σ p) e.symm)) (ne_of_lt hp.2)
    have hc := Finset.card_le_card hsub
    rw [Finset.card_image_of_injective _ hσ.inj, show (Finset.univ.filter fun p : Fin n => p < k) = Finset.Iio k by ext p; simp,
      Fin.card_Iio] at hc
    exact absurd ha (not_lt.mpr (hk.trans hc))

/-- Every positive score is among the first `K` listed where at most `K` are positive. -/
theorem ranked_of_few {K : ℕ} (hz : Few z K) {σ : Fin n → Fin n} (hσ : Ranking z σ) (j : Fin n) (hj : 0 < z j) :
    ∃ k : Fin n, k.val < K ∧ σ k = j := by
  obtain ⟨k, rfl⟩ := hσ.surj j
  refine ⟨k, ?_, rfl⟩
  have hsub : (Finset.Iic k).image σ ⊆ Finset.univ.filter fun i => 0 < z i := by
    intro i hi
    obtain ⟨p, hp, rfl⟩ := Finset.mem_image.mp hi
    refine Finset.mem_filter.mpr ⟨Finset.mem_univ _, ?_⟩
    rcases lt_or_eq_of_le (Finset.mem_Iic.mp hp) with hlt | rfl
    · exact lt_of_lt_of_le hj (not_lt.mp (hσ.down p k hlt))
    · exact hj
  have hc := (Finset.card_le_card hsub).trans hz
  rw [Finset.card_image_of_injective _ hσ.inj, Fin.card_Iic] at hc
  exact hc

/-- Score `j` of a clear row is among the first `K` listed exactly where, being positive, fewer than `K` scores exceed it. -/
theorem ranked_iff {K : ℕ} (hz : Clear z K) {σ : Fin n → Fin n} (hσ : Ranking z σ) (j : Fin n) (hj : 0 < z j) :
    (∃ k : Fin n, k.val < K ∧ σ k = j) ↔ above z j < K :=
  hz.elim (fun h => iff_of_true (ranked_of_few z h hσ j hj) (above_lt_of_few z h j hj)) fun h => ranked_iff_of_single z h hσ j hj

open Classical in
/-- The ranking's result: the positive part of the first `K` listed scores, zero elsewhere, is what is kept of the row. -/
theorem ranking_eq_kept {K : ℕ} (hz : Clear z K) {σ : Fin n → Fin n} (hσ : Ranking z σ) (j : Fin n) :
    (if ∃ k : Fin n, k.val < K ∧ σ k = j then max (z j) 0 else 0) = kept z K j := by
  unfold kept
  by_cases hj : 0 < z j
  · rw [max_eq_left hj.le]
    exact if_congr ((ranked_iff z hz hσ j hj).trans ⟨fun h => ⟨hj, h⟩, fun h => h.2⟩) rfl rfl
  · rw [max_eq_right (not_lt.mp hj), ite_self, if_neg fun h => hj h.1]

end Cert.TopRow

end
-- ==== Proof.Scores.lean ====
/- Comparison bits and constants of the ideal instance, and the row-by-column sums that both programs take: the values
   that the readings of the kernel and of the reference are stated with. -/
module

public import Idealize.ShloMosaic.Lib.ValueIdx
public import Idealize.ShloMosaic.Lib.MatmulPlain
public import Idealize.ShloMosaic.Lib.StackMember
public import proofs.«01_k».proof.Proof.TopRow

@[expose] public section

noncomputable section

namespace Cert.Scores

open Idealize.ShloMosaic
open Idealize.ShloMosaic.ValueIdx (ix1 ix2 ix3)

/-- The sum over the contracted axis of a row of `A` times a column of `B`. -/
def dot {M K N : ℕ} (A : (⟨2, ![M, K]⟩ : Shape).Idx → EReal) (B : (⟨2, ![K, N]⟩ : Shape).Idx → EReal) (r : Fin M) (c : Fin N) : EReal :=
  ∑ k : Fin K, A (ix2 r k) * B (ix2 k c)

/-- What a row of features decodes to: the sum of the row's entries times a column of `B`. -/
def rowDot {K N : ℕ} (a : Fin K → EReal) (B : (⟨2, ![K, N]⟩ : Shape).Idx → EReal) (c : Fin N) : EReal :=
  ∑ k : Fin K, a k * B (ix2 k c)

/-! ## The three results, as functions of the inputs -/

section Results

variable {T D L : ℕ} (x : (⟨2, ![T, D]⟩ : Shape).Idx → EReal) (we : (⟨2, ![D, L]⟩ : Shape).Idx → EReal)

/-- Every token's scores. -/
def scores : (⟨2, ![T, L]⟩ : Shape).Idx → EReal := fun i => dot x we (i 0) (i 1)

/-- Every token's scores with only the `K` greatest positive ones kept. -/
def kept (K : ℕ) : (⟨2, ![T, L]⟩ : Shape).Idx → EReal := fun i => TopRow.kept (dot x we (i 0)) K (i 1)

/-- What the kept scores decode to. -/
def outputs (K : ℕ) (wd : (⟨2, ![L, D]⟩ : Shape).Idx → EReal) : (⟨2, ![T, D]⟩ : Shape).Idx → EReal :=
  fun i => rowDot (TopRow.kept (dot x we (i 0)) K) wd (i 1)

end Results

/-! ## Bits -/

/-- An equality comparison is one exactly on equal values. -/
theorem cmp_oeq_iff (x y : EReal) : Ideal.cmp .oeq x y = 1#1 ↔ x = y := by
  by_cases h : x = y <;> simp [Ideal.cmp, h]

/-- A greater-than comparison is one exactly where the first value exceeds the second. -/
theorem cmp_ogt_iff (x y : EReal) : Ideal.cmp .ogt x y = 1#1 ↔ y < x := by
  by_cases h : y < x <;> simp [Ideal.cmp, h]

/-- A less-or-equal comparison is one exactly where the first value is at most the second. -/
theorem cmp_ole_iff (x y : EReal) : Ideal.cmp .ole x y = 1#1 ↔ x ≤ y := by
  by_cases h : x ≤ y <;> simp [Ideal.cmp, h]

/-- The or of two bits is one exactly where one of them is. -/
theorem ori_iff (a b : BitVec 1) : IntOp.ori a b = 1#1 ↔ a = 1#1 ∨ b = 1#1 := by
  revert a b; decide

/-- A select on a bit that is one exactly where `p` holds is the choice on `p`. -/
theorem select_of_iff {α : Type} {b : BitVec 1} {p : Prop} [Decidable p] (h : b = 1#1 ↔ p) (x y : α) :
    Scalar.select b x y = if p then x else y := by
  by_cases hp : p
  · rw [if_pos hp, h.mpr hp]; rfl
  · rw [if_neg hp, ValueIdx.eq_zero_of_ne_one fun e => hp (h.mp e)]; rfl

/-! ## Constants -/

/-- The pattern of minus infinity is the least extended real. -/
theorem ofBits_neg_inf : Ideal.ofBits .f32 0xFF800000#32 = ⊥ := by
  simp [Ideal.ofBits, Ideal.ieee]

end Cert.Scores

end
-- ==== Proof.KernelBlock.lean ====
/- What one block of the kernel computes, read at an index: the block of scores, the block of kept scores by four rounds
   of removing the row's maximum, and the block of outputs decoded from the kept scores. -/
module

public import Idealize.ShloMosaic.Lib.Pipeline.Value
public import proofs.«01_k».proof.Proof.Gen.KernelIdeal.Skeleton
public import proofs.«01_k».proof.Proof.Gen.KernelIdeal
public import proofs.«01_k».proof.Proof.Scores

@[expose] public section

noncomputable section

namespace Cert.KernelBlock

open Cert.KernelIdeal Cert.KernelIdeal.Gen Idealize.ShloMosaic
open Idealize.ShloMosaic.ValueIdx (ix1 ix2)
open Cert.Scores

/-- A block of rows, as the kernel holds one of 1024 tokens by 32 features. -/
abbrev Rows := FVec Ideal S1024x32 .f32

/-- Row `r` of a block. -/
def row (y : Rows) (r : Fin 1024) : Fin 32 → EReal := fun f => y (ix2 r f)

/-! ## The scores -/

/-- The block of scores at (token, feature): the token's inputs times the feature's encoder column. -/
theorem scores_apply (x : Vec Ideal S1024x2048 .f32) (we : Vec Ideal S2048x32 .f32) (r : Fin 1024) (f : Fin 32) :
    k0_pay2 x we (ix2 r f) = dot x we r f := by
  refine (Ideal.matmul_plain_apply (M := 1024) (K := 2048) (N := 32) none (φ₁ := .bf16) (φ₂ := .bf16) x we _ r f).trans ?_
  show Ideal.ofBits .f32 0x00000000#32 + _ = _
  rw [Ideal.ofBits_zero_f32, zero_add]
  rfl

/-! ## One round -/

/-- The maximum of each row, spread back over the row. -/
def spreadTop (y : Rows) : Rows :=
  broadcastTo S1024x32 (shapeCast S1024x1 (multiReduction .maximumf [1] S1024 y 0xFF800000#32 reduces_S1024x32_S1024 (.inl rfl) rfl)
    shapeCasts_S1024_S1024x1) broadcasts_S1024x1_S1024x32

/-- The bits of the entries that equal their row's maximum. -/
def isTop (y : Rows) : IVec S1024x32 1 := cmpf .oeq y (spreadTop y)

/-- A round: those entries set to minus infinity. -/
def removeTop (y : Rows) : Rows := select (isTop y) (broadcast S1024x32 (Scalar.ofBits .f32 0xFF800000#32)) y

theorem spreadTop_apply (y : Rows) (r : Fin 1024) (f : Fin 32) : spreadTop y (ix2 r f) = TopRow.top (row y r) := by
  unfold spreadTop
  rw [broadcastTo_apply _ _ (ix2 r f) (ix2 r (0 : Fin 1)) (fun a => by match a with | ⟨0, _⟩ => rfl | ⟨1, _⟩ => rfl),
    shapeCast_apply _ _ (ix2 r (0 : Fin 1)) (ix1 r) (by
      rw [Shape.rowMajor_val_two, Shape.rowMajor_val_one]; show r.val = r.val * 1 + 0; omega)]
  refine (Ideal.multiReduction_maximumf_single y _ reduces_S1024x32_S1024 (.inl rfl) rfl (ix1 r)).trans ?_
  show Finset.univ.fold max (Ideal.ofBits .f32 0xFF800000#32) _ = _
  rw [ofBits_neg_inf]
  refine congrArg (Finset.univ.fold max ⊥) (funext fun k => congrArg y (funext fun a => ?_))
  match a with | ⟨0, _⟩ => rfl | ⟨1, _⟩ => rfl

theorem isTop_iff (y : Rows) (r : Fin 1024) (f : Fin 32) : isTop y (ix2 r f) = 1#1 ↔ row y r f = TopRow.top (row y r) := by
  rw [← spreadTop_apply y r f]
  exact cmp_oeq_iff _ _

theorem removeTop_apply (y : Rows) (r : Fin 1024) (f : Fin 32) :
    removeTop y (ix2 r f) = if row y r f = TopRow.top (row y r) then ⊥ else row y r f := by
  show Scalar.select (isTop y (ix2 r f)) (Ideal.ofBits .f32 0xFF800000#32) (y (ix2 r f)) = _
  rw [select_of_iff (isTop_iff y r f), ofBits_neg_inf]
  rfl

/-! ## The rounds -/

/-- The block after `q` rounds. -/
def after (y : Rows) : ℕ → Rows
  | 0 => y
  | q + 1 => removeTop (after y q)

/-- The bits of the entries that the first `q` rounds removed. -/
def gone (y : Rows) : ℕ → IVec S1024x32 1
  | 0 => broadcast S1024x32 0#1
  | q + 1 => ori (gone y q) (isTop (after y q))

theorem row_after (y : Rows) (r : Fin 1024) (q : ℕ) : row (after y q) r = TopRow.masked (row y r) q := by
  induction q with
  | zero => rfl
  | succ q ih =>
    funext f
    show removeTop (after y q) (ix2 r f) = _
    rw [removeTop_apply, ih]
    rfl

theorem gone_iff (y : Rows) (r : Fin 1024) (f : Fin 32) (q : ℕ) : gone y q (ix2 r f) = 1#1 ↔ TopRow.taken (row y r) q f := by
  induction q with
  | zero => exact iff_of_false (by decide : ¬ (0#1 : BitVec 1) = 1#1) id
  | succ q ih =>
    show IntOp.ori (gone y q (ix2 r f)) (isTop (after y q) (ix2 r f)) = 1#1 ↔ _
    rw [ori_iff, ih, isTop_iff, row_after]
    rfl

/-- The kernel's four rounds, printed one after another, are these. -/
theorem kept_block (x : Vec Ideal S1024x2048 .f32) (we : Vec Ideal S2048x32 .f32) :
    k0_pay3 x we = select (gone (k0_pay2 x we) 4) (maximumf (k0_pay2 x we) (broadcast S1024x32 (Scalar.ofBits .f32 0x00000000#32)))
      (broadcast S1024x32 (Scalar.ofBits .f32 0x00000000#32)) := rfl

/-- The block of kept scores at (token, feature), on a token whose choice is clear. -/
theorem kept_apply (x : Vec Ideal S1024x2048 .f32) (we : Vec Ideal S2048x32 .f32) (r : Fin 1024) (f : Fin 32)
    (hz : TopRow.Clear (dot x we r) 4) : k0_pay3 x we (ix2 r f) = TopRow.kept (dot x we r) 4 f := by
  have hrow : row (k0_pay2 x we) r = dot x we r := funext fun f => scores_apply x we r f
  rw [kept_block]
  show Scalar.select (gone (k0_pay2 x we) 4 (ix2 r f)) (max (k0_pay2 x we (ix2 r f)) (Ideal.ofBits .f32 0x00000000#32))
    (Ideal.ofBits .f32 0x00000000#32) = _
  classical
  rw [select_of_iff (gone_iff _ r f 4), Ideal.ofBits_zero_f32, hrow, scores_apply]
  exact TopRow.rounds_eq_kept _ hz f

/-! ## The outputs -/

/-- The block of outputs at (token, column): the token's kept scores times the decoder's column. -/
theorem output_apply (z : Rows) (wd : Vec Ideal S32x2048 .f32) (r : Fin 1024) (d : Fin 2048) :
    k0_pay1 z wd (ix2 r d) = rowDot (row z r) wd d := by
  refine (Ideal.matmul_plain_apply (M := 1024) (K := 32) (N := 2048) none (φ₁ := .bf16) (φ₂ := .bf16) z wd _ r d).trans ?_
  show Ideal.ofBits .f32 0x00000000#32 + _ = _
  rw [Ideal.ofBits_zero_f32, zero_add]
  rfl

end Cert.KernelBlock

end
-- ==== Proof.KernelArray.lean ====
/- What the kernel's three result arrays hold after the run: each grid point's block is 1024 consecutive tokens of the
   three results, and the 32 blocks cover the arrays. -/
module

public import proofs.«01_k».proof.Proof.Gen.KernelIdeal.Value
public import proofs.«01_k».proof.Proof.KernelBlock

@[expose] public section

noncomputable section

namespace Cert.KernelArray

open Cert.KernelIdeal Cert.KernelIdeal.Gen Idealize.ShloMosaic Idealize.ShloMosaic.TcCoe Idealize.SL.Sem
open Idealize.ShloMosaic.ValueIdx (ix2 eq_ix2)
open Cert.Scores

variable (m : (ℓ : Loc nD τ sig) → Buf (Elt Ideal) ℓ)

/-! ## Where the blocks lie -/

/-- The token at row `r` of point `t`'s block. -/
def token (t : Fin cfg0.N) (r : Fin 1024) : Fin 32768 :=
  ⟨t.val * 1024 + r.val, by have h : t.val < 32 := t.isLt; have := r.isLt; omega⟩

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

/-- The inputs' block at `t` is the tokens of `t`. -/
theorem emb0 (t : Fin cfg0.N) (r : Fin 1024) (d : Fin 2048) :
    ((cfg0.win 0).blk t).view.emb (ix2 r d : S1024x2048.Idx) = (ix2 (token t r) d : S32768x2048.Idx) := by
  obtain ⟨e0, e1⟩ := index0 t
  funext a; apply Fin.ext
  match a with
  | ⟨0, _⟩ => show win0_0.index t (0 : Fin 2) * 1024 + 1 * r.val = t.val * 1024 + r.val; omega
  | ⟨1, _⟩ => show win0_0.index t (1 : Fin 2) * 2048 + 1 * d.val = d.val; omega

/-- The two weight arrays are each one block. -/
theorem emb1 (t : Fin cfg0.N) (j : S2048x32.Idx) : ((cfg0.win 1).blk t).view.emb j = j := by
  obtain ⟨e0, e1⟩ := index1 t
  funext a; apply Fin.ext
  match a with
  | ⟨0, _⟩ => show win0_1.index t (0 : Fin 2) * 2048 + 1 * (j 0).val = (j 0).val; omega
  | ⟨1, _⟩ => show win0_1.index t (1 : Fin 2) * 32 + 1 * (j 1).val = (j 1).val; omega

theorem emb2 (t : Fin cfg0.N) (j : S32x2048.Idx) : ((cfg0.win 2).blk t).view.emb j = j := by
  obtain ⟨e0, e1⟩ := index2 t
  funext a; apply Fin.ext
  match a with
  | ⟨0, _⟩ => show win0_2.index t (0 : Fin 2) * 32 + 1 * (j 0).val = (j 0).val; omega
  | ⟨1, _⟩ => show win0_2.index t (1 : Fin 2) * 2048 + 1 * (j 1).val = (j 1).val; omega

/-- Each result's block at `t` is the tokens of `t`. -/
theorem emb3 (t : Fin cfg0.N) (r : Fin 1024) (d : Fin 2048) :
    ((cfg0.win 3).blk t).view.emb (ix2 r d : S1024x2048.Idx) = (ix2 (token t r) d : S32768x2048.Idx) := by
  obtain ⟨e0, e1⟩ := index3 t
  funext a; apply Fin.ext
  match a with
  | ⟨0, _⟩ => show win0_3.index t (0 : Fin 2) * 1024 + 1 * r.val = t.val * 1024 + r.val; omega
  | ⟨1, _⟩ => show win0_3.index t (1 : Fin 2) * 2048 + 1 * d.val = d.val; omega

theorem emb4 (t : Fin cfg0.N) (r : Fin 1024) (f : Fin 32) :
    ((cfg0.win 4).blk t).view.emb (ix2 r f : S1024x32.Idx) = (ix2 (token t r) f : S32768x32.Idx) := by
  obtain ⟨e0, e1⟩ := index4 t
  funext a; apply Fin.ext
  match a with
  | ⟨0, _⟩ => show win0_4.index t (0 : Fin 2) * 1024 + 1 * r.val = t.val * 1024 + r.val; omega
  | ⟨1, _⟩ => show win0_4.index t (1 : Fin 2) * 32 + 1 * f.val = f.val; omega

theorem emb5 (t : Fin cfg0.N) (r : Fin 1024) (f : Fin 32) :
    ((cfg0.win 5).blk t).view.emb (ix2 r f : S1024x32.Idx) = (ix2 (token t r) f : S32768x32.Idx) := by
  obtain ⟨e0, e1⟩ := index5 t
  funext a; apply Fin.ext
  match a with
  | ⟨0, _⟩ => show win0_5.index t (0 : Fin 2) * 1024 + 1 * r.val = t.val * 1024 + r.val; omega
  | ⟨1, _⟩ => show win0_5.index t (1 : Fin 2) * 32 + 1 * f.val = f.val; omega

/-- Every token is in the block of some point. -/
theorem exists_token (i : Fin 32768) : ∃ (t : Fin cfg0.N) (r : Fin 1024), i = token t r :=
  ⟨(⟨i.val / 1024, by have := i.isLt; show i.val / 1024 < 32; omega⟩ : Fin cfg0.N), ⟨i.val % 1024, by omega⟩,
    Fin.ext (by show i.val = i.val / 1024 * 1024 + i.val % 1024; omega)⟩

theorem covered3 (i : S32768x2048.Idx) : ∃ t : Fin cfg0.N, (cfg0.win 3).flush t = true ∧ i ∈ ((cfg0.win 3).blk t).view.set := by
  obtain ⟨t, r, h⟩ := exists_token (i 0)
  refine ⟨t, flush0_3 t, ?_⟩
  have hm := ((cfg0.win 3).blk t).view.emb_mem_set (ix2 r (i 1) : S1024x2048.Idx)
  rw [emb3 t r (i 1), ← h] at hm
  exact (eq_ix2 i).symm ▸ hm

theorem covered4 (i : S32768x32.Idx) : ∃ t : Fin cfg0.N, (cfg0.win 4).flush t = true ∧ i ∈ ((cfg0.win 4).blk t).view.set := by
  obtain ⟨t, r, h⟩ := exists_token (i 0)
  refine ⟨t, flush0_4 t, ?_⟩
  have hm := ((cfg0.win 4).blk t).view.emb_mem_set (ix2 r (i 1) : S1024x32.Idx)
  rw [emb4 t r (i 1), ← h] at hm
  exact (eq_ix2 i).symm ▸ hm

theorem covered5 (i : S32768x32.Idx) : ∃ t : Fin cfg0.N, (cfg0.win 5).flush t = true ∧ i ∈ ((cfg0.win 5).blk t).view.set := by
  obtain ⟨t, r, h⟩ := exists_token (i 0)
  refine ⟨t, flush0_5 t, ?_⟩
  have hm := ((cfg0.win 5).blk t).view.emb_mem_set (ix2 r (i 1) : S1024x32.Idx)
  rw [emb5 t r (i 1), ← h] at hm
  exact (eq_ix2 i).symm ▸ hm

/-! ## The blocks that a point reads -/

/-- The three arrays the kernel reads, at their types. -/
abbrev inX (c : Dev nD) : Vec Ideal S32768x2048 .f32 := m ((c : Thread nD τ).loc main_arg0)
abbrev inEnc (c : Dev nD) : Vec Ideal S2048x32 .f32 := m ((c : Thread nD τ).loc main_arg1)
abbrev inDec (c : Dev nD) : Vec Ideal S32x2048 .f32 := m ((c : Thread nD τ).loc main_arg3)

/-- Point `t`'s block of the inputs. -/
def xBlock (c : Dev nD) (t : Fin cfg0.N) : Vec Ideal S1024x2048 .f32 := fun j => inX m c (ix2 (token t (j 0)) (j 1))

theorem iblk0_eq (c : Dev nD) (t : Fin cfg0.N) : iblk m c 0 t = xBlock m c t := by
  funext j
  obtain ⟨r, d, rfl⟩ : ∃ (r : Fin 1024) (d : Fin 2048), j = ix2 r d := ⟨j 0, j 1, eq_ix2 j⟩
  show V m c main_arg0 (((cfg0.win 0).blk t).view.emb (ix2 r d)) = V m c main_arg0 (ix2 (token t r) d)
  rw [emb0]

theorem iblk1_eq (c : Dev nD) (t : Fin cfg0.N) : iblk m c 1 t = inEnc m c := by
  funext j; show V m c main_arg1 (((cfg0.win 1).blk t).view.emb j) = V m c main_arg1 j; rw [emb1]

theorem iblk2_eq (c : Dev nD) (t : Fin cfg0.N) : iblk m c 2 t = inDec m c := by
  funext j; show V m c main_arg3 (((cfg0.win 2).blk t).view.emb j) = V m c main_arg3 j; rw [emb2]

/-- The block's rows are the tokens' rows, so their scores are the tokens' scores. -/
theorem dot_xBlock (c : Dev nD) (t : Fin cfg0.N) (r : Fin 1024) : dot (xBlock m c t) (inEnc m c) r = dot (inX m c) (inEnc m c) (token t r) :=
  rfl

/-! ## What a point leaves in its buffers -/

theorem zero_offsets : (![0, 0] : Fin 2 → ℕ) = fun _ => 0 := funext fun a => by match a with | ⟨0, _⟩ => rfl | ⟨1, _⟩ => rfl

section Buffers

variable (x0 : Vec Ideal S1024x2048 .f32) (x1 : Vec Ideal S2048x32 .f32) (x2 : Vec Ideal S32x2048 .f32)

theorem out5_eq : out0_5 x0 x1 x2 = k0_pay2 x0 x1 := by
  rw [out0_5, View.canon_unit_zero zero_offsets, View.ld_unit_zero zero_offsets, View.ld_unit_zero zero_offsets]

theorem out4_eq : out0_4 x0 x1 x2 = k0_pay3 x0 x1 := by
  rw [out0_4, View.canon_unit_zero zero_offsets, View.ld_unit_zero zero_offsets, View.ld_unit_zero zero_offsets]

theorem out3_eq : out0_3 x0 x1 x2 = k0_pay1 (k0_pay3 x0 x1) x2 := by
  rw [out0_3, View.canon_unit_zero zero_offsets, View.ld_unit_zero zero_offsets, View.ld_unit_zero zero_offsets,
    View.ld_unit_zero zero_offsets]

end Buffers

/-! ## The arrays -/

/-- After the run the third result holds every token's scores. -/
theorem final5 (c : Dev nD) : (dats m 0 c).arrAt 5 cfg0.N = scores (inX m c) (inEnc m c) := by
  refine (dats m 0 c).arrAt_eq_of_cover 5 (scores (inX m c) (inEnc m c)) (fun t _ => ?_) covered5
  rw [Value.flushed5, out5_eq, iblk0_eq, iblk1_eq]
  funext j
  show k0_pay2 (xBlock m c t) (inEnc m c) j = scores (inX m c) (inEnc m c) (((cfg0.win 5).blk t).view.emb j)
  obtain ⟨r, f, rfl⟩ : ∃ (r : Fin 1024) (f : Fin 32), j = ix2 r f := ⟨j 0, j 1, eq_ix2 j⟩
  rw [emb5 t r f, KernelBlock.scores_apply, dot_xBlock]
  rfl

/-- After the run the second result holds every token's kept scores, the tokens' choices being clear. -/
theorem final4 (c : Dev nD) (hz : ∀ i, TopRow.Clear (dot (inX m c) (inEnc m c) i) 4) :
    (dats m 0 c).arrAt 4 cfg0.N = kept (inX m c) (inEnc m c) 4 := by
  refine (dats m 0 c).arrAt_eq_of_cover 4 (kept (inX m c) (inEnc m c) 4) (fun t _ => ?_) covered4
  rw [Value.flushed4, out4_eq, iblk0_eq, iblk1_eq]
  funext j
  show k0_pay3 (xBlock m c t) (inEnc m c) j = kept (inX m c) (inEnc m c) 4 (((cfg0.win 4).blk t).view.emb j)
  obtain ⟨r, f, rfl⟩ : ∃ (r : Fin 1024) (f : Fin 32), j = ix2 r f := ⟨j 0, j 1, eq_ix2 j⟩
  rw [emb4 t r f, KernelBlock.kept_apply _ _ _ _ (by rw [dot_xBlock]; exact hz _), dot_xBlock]
  rfl

/-- After the run the first result holds what every token's kept scores decode to, the tokens' choices being clear. -/
theorem final3 (c : Dev nD) (hz : ∀ i, TopRow.Clear (dot (inX m c) (inEnc m c) i) 4) :
    (dats m 0 c).arrAt 3 cfg0.N = outputs (inX m c) (inEnc m c) 4 (inDec m c) := by
  refine (dats m 0 c).arrAt_eq_of_cover 3 (outputs (inX m c) (inEnc m c) 4 (inDec m c)) (fun t _ => ?_) covered3
  rw [Value.flushed3, out3_eq, iblk0_eq, iblk1_eq, iblk2_eq]
  funext j
  show k0_pay1 (k0_pay3 (xBlock m c t) (inEnc m c)) (inDec m c) j
    = outputs (inX m c) (inEnc m c) 4 (inDec m c) (((cfg0.win 3).blk t).view.emb j)
  obtain ⟨r, d, rfl⟩ : ∃ (r : Fin 1024) (d : Fin 2048), j = ix2 r d := ⟨j 0, j 1, eq_ix2 j⟩
  have hrow : KernelBlock.row (k0_pay3 (xBlock m c t) (inEnc m c)) r = TopRow.kept (dot (inX m c) (inEnc m c) (token t r)) 4 :=
    funext fun f => KernelBlock.kept_apply _ _ r f (by rw [dot_xBlock]; exact hz _)
  rw [emb3 t r d, KernelBlock.output_apply, hrow]
  rfl

end Cert.KernelArray

end
-- ==== Proof.PreRead.lean ====
/- What the precondition says of the inputs: the three bias arrays are zero, and every token's choice of the four greatest
   scores is clear. The precondition's bits are read back as statements about the values. -/
module

public import Idealize.ShloMosaic.Lib.IndicatorCount
public import Idealize.ShloMosaic.Lib.Pipeline.Value
public import proofs.«01_k».proof.Proof.Gen.Pre_zero_biases_and_clear_choice
public import proofs.«01_k».proof.Proof.Scores

@[expose] public section

noncomputable section

namespace Cert.PreRead

open Cert.Pre_zero_biases_and_clear_choice Cert.Pre_zero_biases_and_clear_choice.Gen Idealize.ShloMosaic
open Idealize.ShloMosaic.ValueIdx (ix0 ix1 ix2 ix3 eq_ix2)
open Cert.Scores

/-! ## Counts -/

/-- A count of at most 32, as a word, is at least four as a signed word only if it is at least four. -/
theorem four_le_of_sge : ∀ n : Fin 33, IntOp.cmpi .sge (BitVec.ofNat 32 n.val) 4#32 = 1#1 → 4 ≤ n.val := by decide

/-- A count of at most 32 is the word one only if it is one. -/
theorem eq_one_of_eq : ∀ n : Fin 33, IntOp.cmpi .eq (BitVec.ofNat 32 n.val) 1#32 = 1#1 → n.val = 1 := by decide

/-- A count of at most 32 is at most four as a signed word only if it is at most four. -/
theorem le_four_of_sle : ∀ n : Fin 33, IntOp.cmpi .sle (BitVec.ofNat 32 n.val) 4#32 = 1#1 → n.val ≤ 4 := by decide

/-- The sum of widened bits over the places that a reduction sends to `j`, listed once each by `e`, is the number of ones
    there, as a word. -/
theorem count_of {s t : Shape} {axes : List (Fin s.rank)} {n : ℕ} (b : IVec s 1) (h : s.ReducesTo axes t) (j : t.Idx) (e : Fin n → s.Idx)
    (he : Function.Injective e) (hd : ∀ i, h.drop i = j ↔ ∃ k, e k = i) :
    Host.reduce IntOp.addi (extui 32 b natLt_1_32) (constantI S_ 32 0#32) h h_S_ j
      = BitVec.ofNat 32 (Finset.univ.filter fun k : Fin n => b (e k) = 1#1).card := by
  classical
  rw [Host.reduce_eq_fold]
  refine (IndicatorCount.fold_addi_setWidth_eq_card b _).trans (congrArg (BitVec.ofNat 32) ?_)
  rw [← Finset.card_image_of_injective _ he]
  refine congrArg Finset.card (Finset.ext fun i => ?_)
  simp only [Finset.mem_filter, Finset.mem_image, Finset.mem_univ, true_and]
  constructor
  · rintro ⟨hi, hb⟩
    obtain ⟨k, rfl⟩ := (hd i).1 hi
    exact ⟨k, hb, rfl⟩
  · rintro ⟨k, hb, rfl⟩
    exact ⟨(hd _).2 ⟨k, rfl⟩, hb⟩

/-- The count over the last of three axes. -/
theorem count_pairs (b : IVec S32768x32x32 1) (t : Fin 32768) (j : Fin 32) :
    Host.reduce IntOp.addi (extui 32 b natLt_1_32) (constantI S_ 32 0#32) reducesTo_S32768x32x32_S32768x32_d2 h_S_ (ix2 t j)
      = BitVec.ofNat 32 (Finset.univ.filter fun i : Fin 32 => b (ix3 t j i) = 1#1).card := by
  refine count_of b _ _ (fun i => ix3 t j i) (fun i i' h => congrFun h 2) fun i => ?_
  have h0 : (reducesTo_S32768x32x32_S32768x32_d2.drop i 0).val = (i 0).val := Shape.ReducesTo.drop_apply_val _ i 0
  have h1 : (reducesTo_S32768x32x32_S32768x32_d2.drop i 1).val = (i 1).val := Shape.ReducesTo.drop_apply_val _ i 1
  constructor
  · intro e
    rw [e] at h0 h1
    exact ⟨i 2, funext fun a => by match a with | ⟨0, _⟩ => exact Fin.ext h0 | ⟨1, _⟩ => exact Fin.ext h1 | ⟨2, _⟩ => rfl⟩
  · rintro ⟨k, rfl⟩
    exact funext fun a => by match a with | ⟨0, _⟩ => exact Fin.ext h0 | ⟨1, _⟩ => exact Fin.ext h1

/-- The count over the last of two axes. -/
theorem count_row (b : IVec S32768x32 1) (t : Fin 32768) :
    Host.reduce IntOp.addi (extui 32 b natLt_1_32) (constantI S_ 32 0#32) reducesTo_S32768x32_S32768_d1 h_S_ (ix1 t)
      = BitVec.ofNat 32 (Finset.univ.filter fun i : Fin 32 => b (ix2 t i) = 1#1).card := by
  refine count_of b _ _ (fun i => ix2 t i) (fun i i' h => congrFun h 1) fun i => ?_
  have h0 : (reducesTo_S32768x32_S32768_d1.drop i 0).val = (i 0).val := Shape.ReducesTo.drop_apply_val _ i 0
  constructor
  · intro e
    rw [e] at h0
    exact ⟨i 1, funext fun a => by match a with | ⟨0, _⟩ => exact Fin.ext h0 | ⟨1, _⟩ => rfl⟩
  · rintro ⟨k, rfl⟩
    exact funext fun a => by match a with | ⟨0, _⟩ => exact Fin.ext h0

/-! ## The scores spread over pairs of features -/

section Pairs

variable (z : FVec Ideal S32768x32 .f32) (t : Fin 32768) (j i : Fin 32)

/-- The scores spread so that the last axis runs over the feature compared. -/
def other : FVec Ideal S32768x32x32 .f32 :=
  broadcastInDim S32768x32x32 ![0, 1, 2] bcast_S32768x1x32_S32768x32x32_0_1_2
    (broadcastInDim S32768x1x32 ![0, 2] bcast_S32768x32_S32768x1x32_0_2 z)

/-- The scores spread so that the middle axis runs over the feature itself. -/
def own : FVec Ideal S32768x32x32 .f32 :=
  broadcastInDim S32768x32x32 ![0, 1, 2] bcast_S32768x32x1_S32768x32x32_0_1_2
    (broadcastInDim S32768x32x1 ![0, 1] bcast_S32768x32_S32768x32x1_0_1 z)

theorem other_apply : other z (ix3 t j i) = z (ix2 t i) := by
  unfold other
  rw [broadcastInDim_apply _ _ _ _ (ix3 t (0 : Fin 1) i) (fun a => by match a with | ⟨0, _⟩ => rfl | ⟨1, _⟩ => rfl | ⟨2, _⟩ => rfl),
    broadcastInDim_apply _ _ _ _ (ix2 t i) (fun a => by match a with | ⟨0, _⟩ => rfl | ⟨1, _⟩ => rfl)]

theorem own_apply : own z (ix3 t j i) = z (ix2 t j) := by
  unfold own
  rw [broadcastInDim_apply _ _ _ _ (ix3 t j (0 : Fin 1)) (fun a => by match a with | ⟨0, _⟩ => rfl | ⟨1, _⟩ => rfl | ⟨2, _⟩ => rfl),
    broadcastInDim_apply _ _ _ _ (ix2 t j) (fun a => by match a with | ⟨0, _⟩ => rfl | ⟨1, _⟩ => rfl)]

/-- How many features of the token score above this one, as the precondition counts them. -/
theorem count_above (r : Fin 32 → EReal) (hr : ∀ k, z (ix2 t k) = r k) :
    Host.reduce IntOp.addi (extui 32 (cmpf .ogt (other z) (own z)) natLt_1_32) (constantI S_ 32 0#32)
      reducesTo_S32768x32x32_S32768x32_d2 h_S_ (ix2 t j) = BitVec.ofNat 32 (TopRow.above r j) := by
  rw [count_pairs]
  refine congrArg (fun s : Finset (Fin 32) => BitVec.ofNat 32 s.card) (Finset.filter_congr fun i _ => ?_)
  rw [← hr j, ← hr i, ← other_apply z t j i, ← own_apply z t j i]
  exact cmp_ogt_iff _ _

/-- How many features of the token score as this one does, as the precondition counts them. -/
theorem count_same (r : Fin 32 → EReal) (hr : ∀ k, z (ix2 t k) = r k) :
    Host.reduce IntOp.addi (extui 32 (cmpf .oeq (other z) (own z)) natLt_1_32) (constantI S_ 32 0#32)
      reducesTo_S32768x32x32_S32768x32_d2 h_S_ (ix2 t j) = BitVec.ofNat 32 (Finset.univ.filter fun i => r i = r j).card := by
  rw [count_pairs]
  refine congrArg (fun s : Finset (Fin 32) => BitVec.ofNat 32 s.card) (Finset.filter_congr fun i _ => ?_)
  rw [← hr j, ← hr i, ← other_apply z t j i, ← own_apply z t j i]
  exact cmp_oeq_iff _ _

/-- The scores compared with zero. -/
def positive : IVec S32768x32 1 := cmpf .ogt z (broadcastInDim S32768x32 ![] bcast_S_S32768x32 (constant S_ .f32 0x00000000#32))

/-- Whether at most four scores of the token are positive, as the precondition spreads it over the token's features. -/
def few : IVec S32768x32 1 :=
  broadcastInDim S32768x32 ![0, 1] bcast_S32768x1_S32768x32_0_1
    (cmpi .sle (broadcastInDim S32768x1 ![0] bcast_S32768_S32768x1_0
        (Host.reduce IntOp.addi (extui 32 (positive z) natLt_1_32) (constantI S_ 32 0#32) reducesTo_S32768x32_S32768_d1 h_S_))
      (broadcastInDim S32768x1 ![] bcast_S_S32768x1 (constantI S_ 32 4#32)))

theorem few_apply (r : Fin 32 → EReal) (hr : ∀ k, z (ix2 t k) = r k) :
    few z (ix2 t j) = IntOp.cmpi .sle (BitVec.ofNat 32 (Finset.univ.filter fun i => 0 < r i).card) 4#32 := by
  unfold few
  rw [broadcastInDim_apply _ _ _ _ (ix2 t (0 : Fin 1)) (fun a => by match a with | ⟨0, _⟩ => rfl | ⟨1, _⟩ => rfl)]
  show IntOp.cmpi .sle (broadcastInDim S32768x1 ![0] bcast_S32768_S32768x1_0
        (Host.reduce IntOp.addi (extui 32 (positive z) natLt_1_32) (constantI S_ 32 0#32) reducesTo_S32768x32_S32768_d1 h_S_)
      (ix2 t (0 : Fin 1))) 4#32 = _
  rw [broadcastInDim_apply _ _ _ _ (ix1 t) (fun a => by match a with | ⟨0, _⟩ => rfl), count_row]
  refine congrArg (fun s : Finset (Fin 32) => IntOp.cmpi .sle (BitVec.ofNat 32 s.card) 4#32) (Finset.filter_congr fun i _ => ?_)
  rw [← hr i]
  show Ideal.cmp .ogt (z (ix2 t i)) (Ideal.ofBits .f32 0x00000000#32) = 1#1 ↔ _
  rw [cmp_ogt_iff, Ideal.ofBits_zero_f32]

end Pairs

/-! ## The precondition -/

section Pre

variable (x : FVec Ideal S32768x2048 .f32) (we : FVec Ideal S2048x32 .f32) (be : FVec Ideal S32 .f32) (wd : FVec Ideal S32x2048 .f32)
  (bd bp : FVec Ideal S2048 .f32)

/-- The product the precondition takes, at (token, feature). -/
theorem product_apply (t : Fin 32768) (f : Fin 32) :
    Host.dotGeneral dot_S32768x2048_S2048x32_S32768x32_1_0_0_1_n_n none x we (ix2 t f) = dot x we t f :=
  StackMember.dotGeneral_plain_apply (m := 32768) (n := 32) (k := 2048) none x we t f

/-- The encoder's bias is zero. -/
theorem bias_enc (h : (fn x we be wd bd bp).1 = fun _ => 1#1) (i : S32.Idx) : be i = 0 := by
  have h' : Ideal.cmp .oeq (be i) (Ideal.ofBits .f32 0x00000000#32) = 1#1 := congrFun h i
  rw [cmp_oeq_iff, Ideal.ofBits_zero_f32] at h'
  exact h'

/-- The decoder's bias is zero. -/
theorem bias_dec (h : (fn x we be wd bd bp).2.1 = fun _ => 1#1) (i : S2048.Idx) : bd i = 0 := by
  have h' : Ideal.cmp .oeq (bd i) (Ideal.ofBits .f32 0x00000000#32) = 1#1 := congrFun h i
  rw [cmp_oeq_iff, Ideal.ofBits_zero_f32] at h'
  exact h'

/-- The bias taken from the inputs is zero. -/
theorem bias_pre (h : (fn x we be wd bd bp).2.2.1 = fun _ => 1#1) (i : S2048.Idx) : bp i = 0 := by
  have h' : Ideal.cmp .oeq (bp i) (Ideal.ofBits .f32 0x00000000#32) = 1#1 := congrFun h i
  rw [cmp_oeq_iff, Ideal.ofBits_zero_f32] at h'
  exact h'

/-- Every token's choice of its four greatest positive scores is clear. -/
theorem clear (h : (fn x we be wd bd bp).2.2.2 = fun _ => 1#1) (t : Fin 32768) : TopRow.Clear (dot x we t) 4 := by
  let z := Host.dotGeneral dot_S32768x2048_S2048x32_S32768x32_1_0_0_1_n_n none x we
  have hz : ∀ k, z (ix2 t k) = dot x we t k := product_apply x we t
  have hle : ∀ p : Fin 32 → Prop, ∀ [DecidablePred p], (Finset.univ.filter p).card < 33 := fun p _ =>
    Nat.lt_succ_of_le ((Finset.card_le_univ _).trans_eq (Fintype.card_fin 32))
  by_cases hfew : TopRow.Few (dot x we t) 4
  · exact Or.inl hfew
  refine Or.inr fun j hpos habove i hij => ?_
  have hbit : IntOp.ori (IntOp.ori (IntOp.ori (Ideal.cmp .ole (z (ix2 t j)) (Ideal.ofBits .f32 0x00000000#32))
      (IntOp.cmpi .sge (Host.reduce IntOp.addi (extui 32 (cmpf .ogt (other z) (own z)) natLt_1_32) (constantI S_ 32 0#32)
        reducesTo_S32768x32x32_S32768x32_d2 h_S_ (ix2 t j)) 4#32))
      (IntOp.cmpi .eq (Host.reduce IntOp.addi (extui 32 (cmpf .oeq (other z) (own z)) natLt_1_32) (constantI S_ 32 0#32)
        reducesTo_S32768x32x32_S32768x32_d2 h_S_ (ix2 t j)) 1#32)) (few z (ix2 t j)) = 1#1 := congrFun h (ix2 t j)
  rw [count_above z t j _ hz, count_same z t j _ hz, few_apply z t j _ hz, ori_iff, ori_iff, ori_iff, cmp_ole_iff,
    Ideal.ofBits_zero_f32, hz] at hbit
  rcases hbit with ((hneg | hmany) | hone) | hpositives
  · exact absurd hneg (not_le.2 hpos)
  · exact absurd (four_le_of_sge ⟨_, hle _⟩ hmany) (not_le.2 habove)
  · have hcard : (Finset.univ.filter fun k => dot x we t k = dot x we t j).card = 1 := eq_one_of_eq ⟨_, hle _⟩ hone
    obtain ⟨a, ha⟩ := Finset.card_eq_one.1 hcard
    have hi : i ∈ ({a} : Finset (Fin 32)) := ha ▸ Finset.mem_filter.2 ⟨Finset.mem_univ _, hij⟩
    have hj : j ∈ ({a} : Finset (Fin 32)) := ha ▸ Finset.mem_filter.2 ⟨Finset.mem_univ _, rfl⟩
    exact (Finset.mem_singleton.1 hi).trans (Finset.mem_singleton.1 hj).symm
  · exact absurd (le_four_of_sle ⟨_, hle _⟩ hpositives) hfew

end Pre

end Cert.PreRead

end
-- ==== Proof.RefValue.lean ====
/- What the reference computes, with zero biases and clear choices: its scores are the plain product, its scatter of the
   four greatest scores leaves exactly the kept scores, and its decoded outputs are the kept scores times the decoder. -/
module

public import Idealize.ShloMosaic.Lib.SortFacts
public import Idealize.ShloMosaic.Lib.ScatterToDense.RefScatter
public import Idealize.ShloMosaic.Lib.Pipeline.Value
public import proofs.«01_k».proof.Proof.Gen.ReferenceIdeal
public import proofs.«01_k».proof.Proof.Scores

@[expose] public section

noncomputable section

namespace Cert.RefValue

open Cert.ReferenceIdeal Cert.ReferenceIdeal.Gen Idealize.ShloMosaic
open Idealize.ShloMosaic.ValueIdx (ix1 ix2 ix3 eq_ix2)
open Idealize.ShloMosaic.ScatterToDense (GS GS_zero GS_succ scatter_eq_GS)
open Cert.Scores

/-! ## The scores -/

/-- The reference's scores. -/
def refScores (x : FVec Ideal S32768x2048 .f32) (we : FVec Ideal S2048x32 .f32) (be : FVec Ideal S32 .f32) (bp : FVec Ideal S2048 .f32) :
    FVec Ideal S32768x32 .f32 :=
  addf (Host.dotGeneral dot_S32768x2048_S2048x32_S32768x32_1_0_0_1_n_n none
      (subf x (broadcastInDim S32768x2048 ![0, 1] bcast_S1x2048_S32768x2048_0_1 (broadcastInDim S1x2048 ![1] bcast_S2048_S1x2048_1 bp))) we)
    (broadcastInDim S32768x32 ![0, 1] bcast_S1x32_S32768x32_0_1 (broadcastInDim S1x32 ![1] bcast_S32_S1x32_1 be))

/-- Taking a zero bias from the inputs leaves them. -/
theorem sub_bias (x : FVec Ideal S32768x2048 .f32) (bp : FVec Ideal S2048 .f32) (hp : ∀ i, bp i = 0) :
    subf x (broadcastInDim S32768x2048 ![0, 1] bcast_S1x2048_S32768x2048_0_1 (broadcastInDim S1x2048 ![1] bcast_S2048_S1x2048_1 bp)) = x := by
  funext i
  show (x i : EReal) - (bp _ : EReal) = x i
  rw [hp, sub_zero]

/-- With zero biases the reference's scores are the tokens' scores. -/
theorem refScores_eq (x : FVec Ideal S32768x2048 .f32) (we : FVec Ideal S2048x32 .f32) (be : FVec Ideal S32 .f32) (bp : FVec Ideal S2048 .f32)
    (he : ∀ i, be i = 0) (hp : ∀ i, bp i = 0) : refScores x we be bp = scores x we := by
  unfold refScores
  rw [sub_bias x bp hp]
  funext i
  obtain ⟨t, f, rfl⟩ : ∃ (t : Fin 32768) (f : Fin 32), i = ix2 t f := ⟨i 0, i 1, eq_ix2 i⟩
  show (Host.dotGeneral dot_S32768x2048_S2048x32_S32768x32_1_0_0_1_n_n none x we (ix2 t f) : EReal) + (be _ : EReal) = dot x we t f
  rw [he, add_zero]
  exact StackMember.dotGeneral_plain_apply (m := 32768) (n := 32) (k := 2048) none x we t f

/-! ## The four greatest -/

section Top

variable (z : FVec Ideal S32768x32 .f32)

/-- Token `t`'s scores. -/
def rowOf (t : Fin 32768) : Fin 32 → EReal := fun f => z (ix2 t f)

/-- The order in which the sort lists token `t`'s scores. -/
def order (t : Fin 32768) : Fin 32 → Fin 32 :=
  sortedFrom fun k k' => Ideal.cmp .ogt (z (ix2 t k)) (z (ix2 t k')) == 1#1

theorem order_before (t : Fin 32768) (k k' : Fin 32) :
    (Ideal.cmp .ogt (z (ix2 t k)) (z (ix2 t k')) == 1#1) = decide (rowOf z t k' < rowOf z t k) := by
  rw [Bool.eq_iff_iff, beq_iff_eq, decide_eq_true_iff]
  exact cmp_ogt_iff _ _

/-- The order is a ranking from the greatest score down. -/
theorem order_ranking (t : Fin 32768) : TopRow.Ranking (rowOf z t) (order z t) where
  inj := sortedFrom_injective _
  surj := sortedFrom_surjective _
  down i j hij := by
    have hs := sortedFrom_noInversion (fun k k' => decide (rowOf z t k' < rowOf z t k))
      (fun k k' => decide (rowOf z t k' < rowOf z t k))
      (fun a b h => decide_eq_false (not_lt.2 (of_decide_eq_true h).le)) (fun _ _ h => h)
      (fun a b c hab hbc => decide_eq_false (not_lt.2 ((not_lt.1 (of_decide_eq_false hab)).trans (not_lt.1 (of_decide_eq_false hbc)))))
      i j hij
    have ho : order z t = sortedFrom fun k k' => decide (rowOf z t k' < rowOf z t k) :=
      congrArg sortedFrom (funext fun k => funext fun k' => order_before z t k k')
    rw [ho]
    exact of_decide_eq_false hs

/-- The `k`-th of the four listed. -/
def listed (t : Fin 32768) (k : Fin 4) : Fin 32 := order z t ⟨k.val, by omega⟩

/-- Token `t`'s index with its feature replaced. -/
theorem along_eq (t : Fin 32768) (f k : Fin 32) : (ix2 t f : S32768x32.Idx).along (1 : Fin 2) k = ix2 t k := by
  funext a
  match a with
  | ⟨0, _⟩ => rfl
  | ⟨1, _⟩ => rfl

/-- The four greatest scores and their features, as the reference takes them. -/
abbrev four : FVec Ideal S32768x4 .f32 × IVec S32768x4 32 := Host.topK S32768x4 1 (FloatOps.cmpfTotal .gt) z sliceFits_S32768x32_S32768x4

/-- Each entry's feature, which the sort carries along. -/
def features : IVec S32768x32 32 := fun i => if hd : 1 < S32768x32.rank then iotaInDim S32768x32 32 ⟨1, hd⟩ i else 0#32

theorem features_apply (t : Fin 32768) (f : Fin 32) : features (ix2 t f) = BitVec.ofNat 32 f.val := by
  unfold features
  rw [dif_pos (by decide : 1 < S32768x32.rank)]
  rfl

/-- The place of the four in the sorted row. -/
theorem slice_eq (t : Fin 32768) (k : Fin 4) :
    (fun a => ⟨0 + ((ix2 t k : S32768x4.Idx) (a.cast sliceFits_S32768x32_S32768x4.1.symm)).val,
      Nat.lt_of_lt_of_le (Nat.add_lt_add_left ((ix2 t k : S32768x4.Idx) _).isLt _) (sliceFits_S32768x32_S32768x4.2 a)⟩ : S32768x32.Idx)
      = ix2 t (⟨k.val, by omega⟩ : Fin 32) := by
  funext a
  match a with
  | ⟨0, _⟩ => exact Fin.ext (Nat.zero_add _)
  | ⟨1, _⟩ => exact Fin.ext (Nat.zero_add _)

/-- The sort of the scores, each with its feature, read at an index. -/
theorem sort_apply (y : S32768x32.Idx → BitVec 32) (t : Fin 32768) (f : Fin 32) :
    (Host.sort2 S32768x32 1 (fun l r : EReal × BitVec 32 => Ideal.cmp .ogt l.1 r.1) z y).1 (ix2 t f) = z (ix2 t (order z t f))
      ∧ (Host.sort2 S32768x32 1 (fun l r : EReal × BitVec 32 => Ideal.cmp .ogt l.1 r.1) z y).2 (ix2 t f) = y (ix2 t (order z t f)) := by
  have ho : (sortedFrom (fun k k' : Fin 32 => Ideal.cmp .ogt (z ((ix2 t f : S32768x32.Idx).along (1 : Fin 2) k))
      (z ((ix2 t f : S32768x32.Idx).along (1 : Fin 2) k')) == 1#1) f) = order z t f :=
    congrArg (fun R => sortedFrom R f) (funext fun k => funext fun k' => by rw [along_eq, along_eq])
  unfold Host.sort2
  rw [dif_pos (by decide : 1 < S32768x32.rank)]
  constructor
  · show z ((ix2 t f : S32768x32.Idx).along (1 : Fin 2) (sortedFrom _ f)) = _
    exact (congrArg (fun k => z ((ix2 t f : S32768x32.Idx).along (1 : Fin 2) k)) ho).trans (congrArg z (along_eq t f _))
  · show y ((ix2 t f : S32768x32.Idx).along (1 : Fin 2) (sortedFrom _ f)) = _
    exact (congrArg (fun k => y ((ix2 t f : S32768x32.Idx).along (1 : Fin 2) k)) ho).trans (congrArg y (along_eq t f _))

/-- The `k`-th value taken. -/
theorem four_value (t : Fin 32768) (k : Fin 4) : (four z).1 (ix2 t k) = z (ix2 t (listed z t k)) :=
  (congrArg (Host.sort2 S32768x32 1 (fun l r : EReal × BitVec 32 => Ideal.cmp .ogt l.1 r.1) z features).1 (slice_eq t k)).trans
    (sort_apply z features t _).1

/-- The feature of the `k`-th value taken. -/
theorem four_index (t : Fin 32768) (k : Fin 4) : (four z).2 (ix2 t k) = BitVec.ofNat 32 (listed z t k).val :=
  (congrArg (Host.sort2 S32768x32 1 (fun l r : EReal × BitVec 32 => Ideal.cmp .ogt l.1 r.1) z features).2 (slice_eq t k)).trans
    ((sort_apply z features t _).2.trans (features_apply t _))

/-! ## The scatter -/

/-- The tokens' numbers, one to a row. -/
def tokens : IVec S32768x1 32 := broadcastInDim S32768x1 ![0] bcast_S32768_S32768x1_0 (iotaInDim S32768 32 0)

/-- The tokens' numbers after the wrap of negative indices. -/
def wrappedTokens : IVec S32768x1 32 :=
  select (cmpi .slt tokens (broadcastInDim S32768x1 ![] bcast_S_S32768x1 (constantI S_ 32 0#32)))
    (addi tokens (broadcastInDim S32768x1 ![] bcast_S_S32768x1 (constantI S_ 32 32768#32))) tokens

/-- The features taken after the wrap of negative indices. -/
def wrappedFeatures : IVec S32768x4 32 :=
  select (cmpi .slt (four z).2 (broadcastInDim S32768x4 ![] bcast_S_S32768x4 (constantI S_ 32 0#32)))
    (addi (four z).2 (broadcastInDim S32768x4 ![] bcast_S_S32768x4 (constantI S_ 32 32#32))) (four z).2

/-- The places written: a token and a feature for each value taken. -/
def places : IVec S32768x4x2 32 :=
  concatenate S32768x4x2 2
    [⟨S32768x4x1, broadcastInDim S32768x4x1 ![0, 1] bcast_S32768x4_S32768x4x1_0_1
        (broadcastInDim S32768x4 ![0, 1] bcast_S32768x1_S32768x4_0_1 wrappedTokens)⟩,
      ⟨S32768x4x1, broadcastInDim S32768x4x1 ![0, 1] bcast_S32768x4_S32768x4x1_0_1 (wrappedFeatures z)⟩]
    concatenates_S32768x4x1_S32768x4x1_S32768x4x2_d2

/-- The values written: the values taken, negative ones as zero. -/
def written : FVec Ideal S32768x4 .f32 := maximumf (four z).1 (broadcastInDim S32768x4 ![] bcast_S_S32768x4 (constant S_ .f32 0x00000000#32))

/-- The reference's kept scores. -/
def refKept : FVec Ideal S32768x32 .f32 :=
  Host.scatter scatter_S32768x32_S32768x4x2_S32768x4_n_01_01_2 (fun _ b => b)
    (broadcastInDim S32768x32 ![] bcast_S_S32768x32 (constant S_ .f32 0x00000000#32)) (places z) (written z)

theorem tokens_apply (t : Fin 32768) : tokens (ix2 t (0 : Fin 1)) = BitVec.ofNat 32 t.val :=
  (broadcastInDim_apply _ _ _ (ix2 t (0 : Fin 1)) (ix1 t) (fun a => by match a with | ⟨0, _⟩ => rfl)).trans rfl

theorem wrappedTokens_apply (t : Fin 32768) : wrappedTokens (ix2 t (0 : Fin 1)) = BitVec.ofNat 32 t.val := by
  show Scalar.select (IntOp.cmpi .slt (tokens (ix2 t (0 : Fin 1))) 0#32) (IntOp.addi (tokens (ix2 t (0 : Fin 1))) 32768#32)
    (tokens (ix2 t (0 : Fin 1))) = _
  rw [tokens_apply]
  exact Routing.wrap_of_lt _ _ (by
    rw [BitVec.toNat_ofNat]
    exact lt_of_le_of_lt (Nat.mod_le _ _) (by have := t.isLt; show t.val < 2 ^ 31; omega))

theorem wrappedFeatures_apply (t : Fin 32768) (k : Fin 4) : wrappedFeatures z (ix2 t k) = BitVec.ofNat 32 (listed z t k).val := by
  show Scalar.select (IntOp.cmpi .slt ((four z).2 (ix2 t k)) 0#32) (IntOp.addi ((four z).2 (ix2 t k)) 32#32) ((four z).2 (ix2 t k)) = _
  rw [four_index]
  exact Routing.wrap_of_lt _ _ (by
    rw [BitVec.toNat_ofNat]
    exact lt_of_le_of_lt (Nat.mod_le _ _) (by have := (listed z t k).isLt; show (listed z t k).val < 2 ^ 31; omega))

/-- The token of a place. -/
theorem places_token (t : Fin 32768) (k : Fin 4) : places z (ix3 t k (0 : Fin 2)) = BitVec.ofNat 32 t.val := by
  unfold places
  refine (concatenate_pair_apply_left (t := S32768x4x2) (s₁ := S32768x4x1) (s₂ := S32768x4x1) (2 : Fin 3) _ _ _
    (ix3 t k (0 : Fin 2)) rfl (ix3 t k (0 : Fin 1)) (fun b => by match b with | ⟨0, _⟩ => rfl | ⟨1, _⟩ => rfl | ⟨2, _⟩ => rfl)).trans ?_
  rw [broadcastInDim_apply _ _ _ _ (ix2 t k) (fun a => by match a with | ⟨0, _⟩ => rfl | ⟨1, _⟩ => rfl),
    broadcastInDim_apply _ _ _ _ (ix2 t (0 : Fin 1)) (fun a => by match a with | ⟨0, _⟩ => rfl | ⟨1, _⟩ => rfl)]
  exact wrappedTokens_apply t

/-- The feature of a place. -/
theorem places_feature (t : Fin 32768) (k : Fin 4) : places z (ix3 t k (1 : Fin 2)) = BitVec.ofNat 32 (listed z t k).val := by
  unfold places
  refine (concatenate_pair_apply_right (t := S32768x4x2) (s₁ := S32768x4x1) (s₂ := S32768x4x1) (2 : Fin 3) _ _ _
    (ix3 t k (1 : Fin 2)) rfl rfl (ix3 t k (0 : Fin 1))
    (fun b hb => by match b with | ⟨0, _⟩ => rfl | ⟨1, _⟩ => rfl | ⟨2, _⟩ => exact absurd rfl hb) rfl).trans ?_
  rw [broadcastInDim_apply _ _ _ _ (ix2 t k) (fun a => by match a with | ⟨0, _⟩ => rfl | ⟨1, _⟩ => rfl)]
  exact wrappedFeatures_apply z t k

/-- The value written for a place. -/
theorem written_apply (t : Fin 32768) (k : Fin 4) : written z (ix2 t k) = max (rowOf z t (listed z t k)) 0 := by
  show max ((four z).1 (ix2 t k)) (Ideal.ofBits .f32 0x00000000#32) = _
  rw [four_value, Ideal.ofBits_zero_f32]
  rfl

end Top

/-! ## What the scatter leaves -/

open Classical in
/-- After the first `n` candidates, each of which names a feature and carries that feature's value, a feature holds its
    value where one of them names it, else zero. -/
theorem leaves (w : Fin 32 → EReal) (τ : ℕ → Fin 32) (f : Fin 32) (n : ℕ) :
    GS (fun k => BitVec.ofNat 32 (τ k).val) (fun k => w (τ k)) 0 f.val n = if ∃ k, k < n ∧ τ k = f then w f else 0 := by
  induction n with
  | zero => rw [GS_zero, if_neg (fun ⟨k, hk, _⟩ => absurd hk (Nat.not_lt_zero k))]
  | succ n ih =>
    have hw : (BitVec.ofNat 32 (τ n).val).toNat = (τ n).val := by
      rw [BitVec.toNat_ofNat]; exact Nat.mod_eq_of_lt (by have := (τ n).isLt; omega)
    rw [GS_succ, hw, ih]
    by_cases h : τ n = f
    · rw [if_pos (congrArg Fin.val h.symm), if_pos ⟨n, Nat.lt_succ_self n, h⟩, h]
    · rw [if_neg (fun e => h (Fin.ext e.symm))]
      refine if_congr ⟨fun ⟨k, hk, e⟩ => ⟨k, hk.trans (Nat.lt_succ_self n), e⟩, fun ⟨k, hk, e⟩ => ⟨k, ?_, e⟩⟩ rfl rfl
      exact lt_of_le_of_ne (Nat.le_of_lt_succ hk) fun e' => h (e' ▸ e)

/-- The reference's kept scores are the scores with the four greatest positive ones kept, on a token whose choice is clear. -/
theorem refKept_apply (z : FVec Ideal S32768x32 .f32) (t : Fin 32768) (f : Fin 32) (hz : TopRow.Clear (rowOf z t) 4) :
    refKept z (ix2 t f) = TopRow.kept (rowOf z t) 4 f := by
  classical
  let τ : Fin 32768 → ℕ → Fin 32 := fun i k => order z i ⟨k % 32, Nat.mod_lt _ (by decide)⟩
  have hτ : ∀ (i : Fin 32768) (k : Fin 4), listed z i k = τ i k.val := fun i k =>
    congrArg (order z i) (Fin.ext (Nat.mod_eq_of_lt (by have := k.isLt; omega)).symm)
  have hs := scatter_eq_GS (T := 32768) (C := 32) (K := 4) scatter_S32768x32_S32768x4x2_S32768x4_n_01_01_2 rfl rfl rfl (by decide) (by decide)
    (broadcastInDim S32768x32 ![] bcast_S_S32768x32 (constant (F := Ideal) S_ .f32 0x00000000#32)) (places z) (written z)
    (fun i k => BitVec.ofNat 32 (τ i k).val) (fun i k => max (rowOf z i (τ i k)) 0)
    (places_token z) (fun i k => by rw [places_feature, hτ]) (fun i k => by rw [written_apply, hτ]) t f
  refine hs.trans ?_
  show GS _ _ (Ideal.ofBits .f32 0x00000000#32) f.val 4 = _
  rw [Ideal.ofBits_zero_f32]
  refine (leaves (fun g => max (rowOf z t g) 0) (τ t) f 4).trans ?_
  refine Eq.trans ?_ (TopRow.ranking_eq_kept (rowOf z t) hz (order_ranking z t) f)
  have hiff : (∃ k, k < 4 ∧ τ t k = f) ↔ ∃ k : Fin 32, k.val < 4 ∧ order z t k = f := by
    constructor
    · rintro ⟨k, hk, e⟩
      exact ⟨⟨k % 32, Nat.mod_lt _ (by decide)⟩, lt_of_le_of_lt (Nat.mod_le k 32) hk, e⟩
    · rintro ⟨k, hk, e⟩
      exact ⟨k.val, hk, (congrArg (order z t) (Fin.ext (Nat.mod_eq_of_lt k.isLt))).trans e⟩
  by_cases h : ∃ k, k < 4 ∧ τ t k = f
  · rw [if_pos h, if_pos (hiff.1 h)]
  · rw [if_neg h, if_neg fun h' => h (hiff.2 h')]

/-! ## The results -/

section Results

variable (x : FVec Ideal S32768x2048 .f32) (we : FVec Ideal S2048x32 .f32) (wd : FVec Ideal S32x2048 .f32)

theorem rowOf_scores (t : Fin 32768) : rowOf (scores x we) t = dot x we t := rfl

/-- Kept from the tokens' scores. -/
theorem refKept_eq (hz : ∀ t, TopRow.Clear (dot x we t) 4) : refKept (scores x we) = kept x we 4 := by
  funext i
  obtain ⟨t, f, rfl⟩ : ∃ (t : Fin 32768) (f : Fin 32), i = ix2 t f := ⟨i 0, i 1, eq_ix2 i⟩
  rw [refKept_apply (scores x we) t f (by rw [rowOf_scores]; exact hz t), rowOf_scores]
  rfl

/-- The reference's outputs from kept scores. -/
def refOutputs (y : FVec Ideal S32768x32 .f32) (bd : FVec Ideal S2048 .f32) : FVec Ideal S32768x2048 .f32 :=
  addf (Host.dotGeneral dot_S32768x32_S32x2048_S32768x2048_1_0_0_1_n_n none y wd)
    (broadcastInDim S32768x2048 ![0, 1] bcast_S1x2048_S32768x2048_0_1 (broadcastInDim S1x2048 ![1] bcast_S2048_S1x2048_1 bd))

/-- With a zero bias the outputs are what the kept scores decode to. -/
theorem refOutputs_eq (bd : FVec Ideal S2048 .f32) (hd : ∀ i, bd i = 0) : refOutputs wd (kept x we 4) bd = outputs x we 4 wd := by
  funext i
  obtain ⟨t, d, rfl⟩ : ∃ (t : Fin 32768) (d : Fin 2048), i = ix2 t d := ⟨i 0, i 1, eq_ix2 i⟩
  show (Host.dotGeneral dot_S32768x32_S32x2048_S32768x2048_1_0_0_1_n_n none (kept x we 4) wd (ix2 t d) : EReal) + (bd _ : EReal) = _
  rw [hd, add_zero]
  exact StackMember.dotGeneral_plain_apply (φ₁ := .f32) (φ₂ := .f32) (m := 32768) (n := 2048) (k := 32) none (kept x we 4) wd t d

end Results

end Cert.RefValue

end
-- ==== Proof.Equation.lean ====
/- The equation: under the precondition the reference's three results are the three arrays that the kernel leaves. -/
module

public import proofs.«01_k».proof.Proof.Gen.KernelIdeal.Value
public import proofs.«01_k».proof.Proof.Gen.ReferenceIdeal.Run
public import proofs.«01_k».proof.Proof.KernelArray
public import proofs.«01_k».proof.Proof.PreRead
public import proofs.«01_k».proof.Proof.RefValue

@[expose] public section

noncomputable section

namespace Cert.Equation

open Idealize.ShloMosaic Idealize.ShloMosaic.TcCoe Idealize.SL.Sem
open Cert.Scores Cert.RefValue

/-! ## The reference's results as functions of the inputs -/

section Pure

open Cert.ReferenceIdeal

variable (x : FVec Ideal S32768x2048 .f32) (we : FVec Ideal S2048x32 .f32) (be : FVec Ideal S32 .f32) (wd : FVec Ideal S32x2048 .f32)
  (bd bp : FVec Ideal S2048 .f32)

/-- What the precondition says of six input arrays. -/
structure Holds : Prop where
  enc : ∀ i, be i = 0
  dec : ∀ i, bd i = 0
  pre : ∀ i, bp i = 0
  clear : ∀ t, TopRow.Clear (dot x we t) 4

variable {x we be wd bd bp}

theorem scores_eq (h : Holds x we be bd bp) : refScores x we be bp = scores x we := refScores_eq x we be bp h.enc h.pre

theorem kept_eq (h : Holds x we be bd bp) : refKept (refScores x we be bp) = kept x we 4 := by
  rw [scores_eq h, refKept_eq x we h.clear]

theorem outputs_eq (h : Holds x we be bd bp) : refOutputs wd (refKept (refScores x we be bp)) bd = outputs x we 4 wd := by
  rw [kept_eq h, refOutputs_eq x we wd bd h.dec]

end Pure

/-- The reference's run, its results named. -/
theorem reference_run (m : (ℓ : Loc Cert.ReferenceIdeal.nD Cert.ReferenceIdeal.τ Cert.ReferenceIdeal.sig) → Buf (Elt Ideal) ℓ)
    (g : Dev Cert.ReferenceIdeal.nD → PrngReg) :
    open Cert.ReferenceIdeal in
    θ_run (defs (F := Ideal)) (onTc (τ := τ) (main (F := Ideal))) ⟨m, fun _ => 0, g⟩ fun r => ∀ c : Dev nD,
      r.2.mem ((c.tc : Thread nD τ).loc main_v29) = refOutputs (m ((c.tc : Thread nD τ).loc main_arg3))
          (refKept (refScores (m ((c.tc : Thread nD τ).loc main_arg0)) (m ((c.tc : Thread nD τ).loc main_arg1))
            (m ((c.tc : Thread nD τ).loc main_arg2)) (m ((c.tc : Thread nD τ).loc main_arg5))))
          (m ((c.tc : Thread nD τ).loc main_arg4))
      ∧ r.2.mem ((c.tc : Thread nD τ).loc main_v25)
        = refKept (refScores (m ((c.tc : Thread nD τ).loc main_arg0)) (m ((c.tc : Thread nD τ).loc main_arg1))
            (m ((c.tc : Thread nD τ).loc main_arg2)) (m ((c.tc : Thread nD τ).loc main_arg5)))
      ∧ r.2.mem ((c.tc : Thread nD τ).loc main_v6)
        = refScores (m ((c.tc : Thread nD τ).loc main_arg0)) (m ((c.tc : Thread nD τ).loc main_arg1))
            (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run m g

end Cert.Equation

end
-- ==== Proof.lean ====
/- The proof of the claims: the three runs with their arguments unchanged, and the equality of the kernel's three results
   with the reference's. The programs' stated facts come first, from the generated modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_zero_biases_and_clear_choice
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-! ## The runs -/

/-- The kernel's run at the hardware's values. -/
theorem runs_kernel : Cert.quiescent_Kernel := fun m g _ => Cert.Kernel.Gen.frame m g

/-- The kernel's run at the ideal values. -/
theorem runs_ideal : Cert.quiescent_KernelIdeal := fun m g _ => Cert.KernelIdeal.Gen.frame m g

theorem runs_ideal_pre : Cert.quiescent_KernelIdeal_pre_zero_biases_and_clear_choice := fun m g _ => Cert.KernelIdeal.Gen.frame m g

/-- The reference's run at the ideal values: it has no semaphores. -/
theorem runs_reference : Cert.quiescent_ReferenceIdeal := fun m g _ =>
  (θ_run _ _ _).mono (fun r h => ⟨fun c => (h c).2.2.2, Idealize.ShloMosaic.sem_eq_zero_of_no_sems (by decide) r.2⟩)
    (Cert.Equation.reference_run m g)

theorem runs_reference_pre : Cert.quiescent_ReferenceIdeal_pre_zero_biases_and_clear_choice := fun m g _ => runs_reference m g trivial

/-! ## The results -/

/-- The precondition read back, on a device. -/
theorem holds (m : (ℓ : Loc Cert.KernelIdeal.nD Cert.KernelIdeal.τ Cert.KernelIdeal.sig) → Buf (Elt Ideal) ℓ)
    (h : Cert.Pre_KernelIdeal_zero_biases_and_clear_choice m) (c : Dev Cert.KernelIdeal.nD) :
    Cert.Equation.Holds (Cert.KernelArray.inX m c) (Cert.KernelArray.inEnc m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) :=
  ⟨Cert.PreRead.bias_enc _ _ _ _ _ _ (h c).1, Cert.PreRead.bias_dec _ _ _ _ _ _ (h c).2.1, Cert.PreRead.bias_pre _ _ _ _ _ _ (h c).2.2.1,
    Cert.PreRead.clear _ _ _ _ _ _ (h c).2.2.2⟩

/-- The kernel's three results are the reference's. -/
theorem results : Cert.algebraic_KernelIdeal_ReferenceIdeal_pre_zero_biases_and_clear_choice := by
  intro m g m' g' hpre hargs
  refine ⟨fun c => Cert.Scores.outputs (Cert.KernelArray.inX m c) (Cert.KernelArray.inEnc m c) 4 (Cert.KernelArray.inDec m c),
    fun c => Cert.Scores.kept (Cert.KernelArray.inX m c) (Cert.KernelArray.inEnc m c) 4,
    fun c => Cert.Scores.scores (Cert.KernelArray.inX m c) (Cert.KernelArray.inEnc m c),
    (θ_run _ _ _).mono (fun r h c => ?_) (Cert.KernelIdeal.Value.run_blocks m g),
    (θ_run _ _ _).mono (fun r h c => ?_) (Cert.Equation.reference_run m' g')⟩
  · obtain ⟨h3, h4, h5, hrest⟩ := h c
    have hz := (holds m hpre c).clear
    exact ⟨h3.trans (Cert.KernelArray.final3 m c hz), h4.trans (Cert.KernelArray.final4 m c hz), h5.trans (Cert.KernelArray.final5 m c), hrest⟩
  · obtain ⟨ho, hk, hs, hrest⟩ := h c
    obtain ⟨e0, e1, e2, e3, e4, e5⟩ := hargs c
    rw [e0, e1, e2, e3, e4, e5] at ho
    rw [e0, e1, e2, e5] at hk hs
    have hh := holds m hpre c
    exact ⟨ho.trans (Cert.Equation.outputs_eq hh), hk.trans (Cert.Equation.kept_eq hh), hs.trans (Cert.Equation.scores_eq hh), hrest⟩

theorem claim : Cert.Claim :=
  ⟨Cert.Kernel.Gen.facts, Cert.KernelIdeal.Gen.facts, Cert.ReferenceIdeal.Gen.facts, Cert.Pre_zero_biases_and_clear_choice.Gen.facts,
    runs_kernel, runs_ideal, runs_ideal_pre, runs_reference, runs_reference_pre, trivial, results⟩

end Cert.Proof

end
